-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_similarity_below_infinity [hPre_similarity_below_infinity : Cert.Pre_similarity_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_similarity_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_similarity_below_infinity [hPre_similarity_below_infinity : Cert.Pre_similarity_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_similarity_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_similarity_below_infinity [hKernelIdeal : Cert.KernelIdeal.Facts] [hPre_similarity_below_infinity : Cert.Pre_similarity_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_similarity_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_similarity_below_infinity [hReferenceIdeal : Cert.ReferenceIdeal.Facts] [hPre_similarity_below_infinity : Cert.Pre_similarity_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_similarity_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_similarity_below_infinity [hKernelIdeal : Cert.KernelIdeal.Facts] [hReferenceIdeal : Cert.ReferenceIdeal.Facts] [hPre_similarity_below_infinity : Cert.Pre_similarity_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_similarity_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_similarity_below_infinity : Cert.Pre_similarity_below_infinity.Facts),
    quiescent_Kernel (hKernel := hKernel)
    ∧ quiescent_KernelIdeal (hKernelIdeal := hKernelIdeal)
    ∧ quiescent_KernelIdeal_pre_similarity_below_infinity (hKernelIdeal := hKernelIdeal) (hPre_similarity_below_infinity := hPre_similarity_below_infinity)
    ∧ quiescent_ReferenceIdeal (hReferenceIdeal := hReferenceIdeal)
    ∧ quiescent_ReferenceIdeal_pre_similarity_below_infinity (hReferenceIdeal := hReferenceIdeal) (hPre_similarity_below_infinity := hPre_similarity_below_infinity)
    ∧ preserves_Kernel_KernelIdeal
    ∧ algebraic_KernelIdeal_ReferenceIdeal_pre_similarity_below_infinity (hKernelIdeal := hKernelIdeal) (hReferenceIdeal := hReferenceIdeal) (hPre_similarity_below_infinity := hPre_similarity_below_infinity)
-- ==== Pre_similarity_below_infinity.lean ====
abbrev S4x8192x768 : Shape := ⟨3, ![4, 8192, 768]⟩
abbrev S4x8192 : Shape := ⟨2, ![4, 8192]⟩
abbrev S8192x768 : Shape := ⟨2, ![8192, 768]⟩
abbrev S64x768 : Shape := ⟨2, ![64, 768]⟩
abbrev S768x64 : Shape := ⟨2, ![768, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

class Facts : Prop where
  transposes_S64x768_S768x64_1_0 : S64x768.Transposes [1, 0] S768x64
  bcast_S_S8192x64 : S_.BroadcastsInDim S8192x64 (![] : Fin 0 → Fin S8192x64.rank)
  reducesTo_S4x8192_S8192_d0 : S4x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  dot_S8192x768_S768x64_S8192x64_1_0_0_1_n_n_wf : DotDims.WF S8192x768 S768x64 S8192x64 [1] [0] [0] [1] [] []

variable [Facts]

def dot_S8192x768_S768x64_S8192x64_1_0_0_1_n_n : DotDims S8192x768 S768x64 S8192x64 where
  lhsContracting := [1]
  rhsContracting := [0]
  lhsNonContracting := [0]
  rhsNonContracting := [1]
  lhsBatch := []
  rhsBatch := []
  wf := dot_S8192x768_S768x64_S8192x64_1_0_0_1_n_n_wf
def fn_relu {F : FTy → Type} [FloatOps F] (arg0 : FVec F S8192x64 .f32) : FVec F S8192x64 .f32 :=
  let cst : FVec F S_ .f32 := constant S_ .f32 0x00000000#32
  let v0 : FVec F S8192x64 .f32 := broadcastInDim S8192x64 ![] bcast_S_S8192x64 cst
  let v1 : FVec F S8192x64 .f32 := maximumf arg0 v0
  v1

def fn_where {F : FTy → Type} [FloatOps F] (arg0 : IVec S8192x1 1) (arg1 : FVec F S_ .f32) (arg2 : FVec F S8192x64 .f32) : FVec F S8192x64 .f32 :=
  let v0 : IVec S8192x64 1 := broadcastInDim S8192x64 ![0, 1] bcast_S8192x1_S8192x64_0_1 arg0
  let v1 : FVec F S8192x64 .f32 := broadcastInDim S8192x64 ![] bcast_S_S8192x64 arg1
  let v2 : FVec F S8192x64 .f32 := select v0 v1 arg2
  v2

def fn {F : FTy → Type} [FloatOps F] (main_arg0 : FVec F S4x8192x768 .f32) (main_arg1 : FVec F S4x8192 .f32) (main_arg2 : FVec F S8192x768 .f32) (main_arg3 : FVec F S64x768 .f32) : IVec S8192x64 1 :=
  let main_v0 : FVec F S768x64 .f32 := (transpose S768x64 [1, 0] · transposes_S64x768_S768x64_1_0) main_arg3
  let main_v1 : FVec F S8192x64 .f32 := (fun l r => Host.dotGeneral dot_S8192x768_S768x64_S8192x64_1_0_0_1_n_n none l r) main_arg2 main_v0
  let main_cst : FVec F S_ .f32 := constant S_ .f32 0x3F800000#32
  let main_v2 : FVec F S8192x64 .f32 := broadcastInDim S8192x64 ![] bcast_S_S8192x64 main_cst
  let main_v3 : FVec F S8192x64 .f32 := mulf main_v2 main_v1
  let main_v4 : FVec F S8192x64 .f32 := fn_relu (F := F) main_v3
  let main_cst_0 : FVec F S_ .f32 := constant S_ .f32 0x00000000#32
  let main_v5 : FVec F S8192 .f32 := (fun x v => Host.reduceAdd x v reducesTo_S4x8192_S8192_d0 h_S_) main_arg1 main_cst_0
  let main_cst_1 : FVec F S_ .f32 := constant S_ .f32 0x40800000#32
  let main_v6 : FVec F S8192 .f32 := broadcastInDim S8192 ![] bcast_S_S8192 main_cst_1
  let main_v7 : FVec F S8192 .f32 := Host.divf main_v5 main_v6
  let main_v8 : FVec F S8192x1 .f32 := broadcastInDim S8192x1 ![0] bcast_S8192_S8192x1_0 main_v7
  let main_cst_2 : FVec F S_ .f32 := constant S_ .f32 0x3F000000#32
  let main_v9 : FVec F S8192x1 .f32 := broadcastInDim S8192x1 ![] bcast_S_S8192x1 main_cst_2
  let main_v10 : IVec S8192x1 1 := cmpf .olt main_v8 main_v9
  let main_cst_3 : FVec F S_ .f32 := constant S_ .f32 0xCE6E6B28#32
  let main_v11 : FVec F S8192x64 .f32 := fn_where (F := F) main_v10 main_cst_3 main_v4
  let main_cst_4 : FVec F S_ .f32 := constant S_ .f32 0x7F800000#32
  let main_v12 : FVec F S8192x64 .f32 := broadcastInDim S8192x64 ![] bcast_S_S8192x64 main_cst_4
  let main_v13 : IVec S8192x64 1 := cmpf .olt main_v11 main_v12
  main_v13
-- ==== Kernel.lean ====
abbrev S4x8192x768 : Shape := ⟨3, ![4, 8192, 768]⟩
abbrev S4x8192 : Shape := ⟨2, ![4, 8192]⟩
abbrev S8192x768 : Shape := ⟨2, ![8192, 768]⟩
abbrev S64x768 : Shape := ⟨2, ![64, 768]⟩
abbrev S3x384x128 : Shape := ⟨3, ![3, 384, 128]⟩
abbrev S192x128 : Shape := ⟨2, ![192, 128]⟩
abbrev S2x192x128 : Shape := ⟨3, ![2, 192, 128]⟩
abbrev S4x4096 : Shape := ⟨2, ![4, 4096]⟩
abbrev S4096x768 : Shape := ⟨2, ![4096, 768]⟩
abbrev S96x128 : Shape := ⟨2, ![96, 128]⟩
abbrev S2x96x128 : Shape := ⟨3, ![2, 96, 128]⟩
abbrev S64x4096 : Shape := ⟨2, ![64, 4096]⟩
abbrev S4096 : Shape := ⟨1, ![4096]⟩
abbrev S1x4096 : Shape := ⟨2, ![1, 4096]⟩
abbrev S32x128 : Shape := ⟨2, ![32, 128]⟩
abbrev S32x384 : Shape := ⟨2, ![32, 384]⟩
abbrev S1x384x128 : Shape := ⟨3, ![1, 384, 128]⟩
abbrev S384x128 : Shape := ⟨2, ![384, 128]⟩
abbrev S1x32x128 : Shape := ⟨3, ![1, 32, 128]⟩
abbrev S1x96x128 : Shape := ⟨3, ![1, 96, 128]⟩
abbrev S2x24576 : Shape := ⟨2, ![2, 24576]⟩
abbrev S24576 : Shape := ⟨1, ![24576]⟩

abbrev nBuf : Space → Nat
  | .hbm => 9
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S4x8192, .f32⟩
  | .hbm, ⟨2, _⟩ => ⟨S8192x768, .f32⟩
  | .hbm, ⟨3, _⟩ => ⟨S64x768, .f32⟩
  | .hbm, ⟨4, _⟩ => ⟨S3x384x128, .f32⟩
  | .hbm, ⟨5, _⟩ => ⟨S192x128, .f32⟩
  | .hbm, ⟨6, _⟩ => ⟨S2x192x128, .i32⟩
  | .hbm, ⟨7, _⟩ => ⟨S2x24576, .i32⟩
  | .hbm, ⟨8, _⟩ => ⟨S24576, .f32⟩
  | .local _ .vmem, ⟨0, _⟩ => ⟨S4x4096, .f32⟩
  | .local _ .vmem, ⟨1, _⟩ => ⟨S4x4096, .f32⟩
  | .local _ .vmem, ⟨2, _⟩ => ⟨S4096x768, .f32⟩
  | .local _ .vmem, ⟨3, _⟩ => ⟨S4096x768, .f32⟩
  | .local _ .vmem, ⟨4, _⟩ => ⟨S64x768, .f32⟩
  | .local _ .vmem, ⟨5, _⟩ => ⟨S3x384x128, .f32⟩
  | .local _ .vmem, ⟨6, _⟩ => ⟨S96x128, .f32⟩
  | .local _ .vmem, ⟨7, _⟩ => ⟨S96x128, .f32⟩
  | .local _ .vmem, ⟨8, _⟩ => ⟨S2x96x128, .i32⟩
  | .local _ .vmem, ⟨9, _⟩ => ⟨S2x96x128, .i32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x96x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x8192x768 : Shape := ⟨3, ![4, 8192, 768]⟩
abbrev S4x8192 : Shape := ⟨2, ![4, 8192]⟩
abbrev S8192x768 : Shape := ⟨2, ![8192, 768]⟩
abbrev S64x768 : Shape := ⟨2, ![64, 768]⟩
abbrev S768x64 : Shape := ⟨2, ![768, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x3 : Shape := ⟨2, ![8192, 3]⟩
abbrev S24576 : Shape := ⟨1, ![24576]⟩
abbrev S1x24576 : Shape := ⟨2, ![1, 24576]⟩
abbrev S2x24576 : Shape := ⟨2, ![2, 24576]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192, .f32⟩
  | .hbm, ⟨2, _⟩ => ⟨S8192x768, .f32⟩
  | .hbm, ⟨3, _⟩ => ⟨S64x768, .f32⟩
  | .hbm, ⟨4, _⟩ => ⟨S768x64, .f32⟩
  | .hbm, ⟨5, _⟩ => ⟨S8192x64, .f32⟩
  | .hbm, ⟨6, _⟩ => ⟨S_, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .i1⟩
  | .hbm, ⟨21, _⟩ => ⟨S_, .f32⟩
  | .hbm, ⟨22, _⟩ => ⟨S8192x64, .i1⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x64, .f32⟩
  | .hbm, ⟨38, _⟩ => ⟨S8192x64, .f32⟩
  | .hbm, ⟨39, _⟩ => ⟨S8192x3, .f32⟩
  | .hbm, ⟨40, _⟩ => ⟨S8192x3, .i32⟩
  | .hbm, ⟨41, _⟩ => ⟨S8192, .i32⟩
  | .hbm, ⟨42, _⟩ => ⟨S8192x1, .i32⟩
  | .hbm, ⟨43, _⟩ => ⟨S8192x3, .i32⟩
  | .hbm, ⟨44, _⟩ => ⟨S24576, .i32⟩
  | .hbm, ⟨45, _⟩ => ⟨S24576, .i32⟩
  | .hbm, ⟨46, _⟩ => ⟨S1x24576, .i32⟩
  | .hbm, ⟨47, _⟩ => ⟨S1x24576, .i32⟩
  | .hbm, ⟨48, _⟩ => ⟨S2x24576, .i32⟩
  | .hbm, ⟨49, _⟩ => ⟨S24576, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_values : Ref sig .tc := ⟨.hbm, 39, rfl⟩
abbrev main_indices : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.KernelBody.lean ====
/-
  The kernel body's triple and the pipeline's proof data, for any float values.

  At a grid point the body reads its four input blocks and fills both output blocks: the weights' block by three stores,
  each to every third row (rows `w`, `w + 3`, `w + 6`, …), and the indices' block by the same three stores to its second
  plane followed by one store of its whole first plane. `outW` and `outE` state what the two blocks then hold.
-/
module

public import proofs.«01_k».proof.Proof.Gen.KernelIdeal.Frame
public import proofs.«01_k».proof.Proof.Gen.KernelIdeal.Skeleton

@[expose] public section

set_option maxRecDepth 16384

noncomputable section

namespace Cert.Proof.Hyper

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The four whole-block loads. -/
abbrev rMask : Rect S4x4096 := Rect.unit (s := S4x4096) ![0, 0] S4x4096.size inb_S4x4096_S4x4096_0_0
abbrev rNode : Rect S4096x768 := Rect.unit (s := S4096x768) ![0, 0] S4096x768.size inb_S4096x768_S4096x768_0_0
abbrev rHyper : Rect S64x768 := Rect.unit (s := S64x768) ![0, 0] S64x768.size inb_S64x768_S64x768_0_0
/-- The three planes of the selection matrix. -/
abbrev rSel0 : Rect S3x384x128 := Rect.unit (s := S3x384x128) ![0, 0, 0] S1x384x128.size inb_S3x384x128_S1x384x128_0_0_0
abbrev rSel1 : Rect S3x384x128 := Rect.unit (s := S3x384x128) ![1, 0, 0] S1x384x128.size inb_S3x384x128_S1x384x128_1_0_0
abbrev rSel2 : Rect S3x384x128 := Rect.unit (s := S3x384x128) ![2, 0, 0] S1x384x128.size inb_S3x384x128_S1x384x128_2_0_0
/-- Every third row of the weights' block, from row 0, 1 and 2. -/
abbrev rW0 : Rect S96x128 := ⟨(⟨![0, 0], S32x128.size, ![3, 1], inb_S96x128_S32x128_0_0_s_3_1⟩ : LoadRect S96x128), spos_3_1⟩
abbrev rW1 : Rect S96x128 := ⟨(⟨![1, 0], S32x128.size, ![3, 1], inb_S96x128_S32x128_1_0_s_3_1⟩ : LoadRect S96x128), spos_3_1⟩
abbrev rW2 : Rect S96x128 := ⟨(⟨![2, 0], S32x128.size, ![3, 1], inb_S96x128_S32x128_2_0_s_3_1⟩ : LoadRect S96x128), spos_3_1⟩
/-- The same rows of the indices' block's second plane, and its whole first plane. -/
abbrev rE0 : Rect S2x96x128 := ⟨(⟨![1, 0, 0], S1x32x128.size, ![1, 3, 1], inb_S2x96x128_S1x32x128_1_0_0_s_1_3_1⟩ : LoadRect S2x96x128), spos_1_3_1⟩
abbrev rE1 : Rect S2x96x128 := ⟨(⟨![1, 1, 0], S1x32x128.size, ![1, 3, 1], inb_S2x96x128_S1x32x128_1_1_0_s_1_3_1⟩ : LoadRect S2x96x128), spos_1_3_1⟩
abbrev rE2 : Rect S2x96x128 := ⟨(⟨![1, 2, 0], S1x32x128.size, ![1, 3, 1], inb_S2x96x128_S1x32x128_1_2_0_s_1_3_1⟩ : LoadRect S2x96x128), spos_1_3_1⟩
abbrev rN : Rect S2x96x128 := Rect.unit (s := S2x96x128) ![0, 0, 0] S1x96x128.size inb_S2x96x128_S1x96x128_0_0_0

/-! ## What the body computes from its input blocks -/

/-- The hyperedge number of each entry of the score block. -/
abbrev edgeNo : IVec S64x4096 32 := iota .tc S64x4096 32 [0] iota_S64x4096_d0_w32

section Values

variable (x0 : Vec F S4x4096 .f32) (x1 : Vec F S4096x768 .f32) (x2 : Vec F S64x768 .f32)

/-- The first round's largest score and its hyperedge, and the scores with that entry struck out. -/
abbrev best0 : FVec F S4096 .f32 := k0_pay2 (View.ld x1 rNode) (View.ld x2 rHyper) (View.ld x0 rMask)
abbrev edge0 : IVec S4096 32 := k0_pay3 (View.ld x1 rNode) (View.ld x2 rHyper) (View.ld x0 rMask)
abbrev rest0 : FVec F S64x4096 .f32 := k0_pay4 (View.ld x1 rNode) (View.ld x2 rHyper) (View.ld x0 rMask)
/-- The three rounds' scores, and the three rounds' hyperedges as floats, each round a band of 128 columns. -/
abbrev bestAll : FVec F S32x384 .f32 := k0_pay9 edgeNo (best0 x0 x1 x2) (rest0 x0 x1 x2)
abbrev edgeAll : FVec F S32x384 .f32 := k0_pay10 edgeNo (edge0 x0 x1 x2) (rest0 x0 x1 x2)

variable (x3 : Vec F S3x384x128 .f32)

/-- The weights' block after the body: its three strided stores, the last first. -/
def outW : Vec F S96x128 .f32 :=
  View.canon [⟨rW2, k0_pay18 (bestAll x0 x1 x2) (View.ld x3 rSel2)⟩,
    ⟨rW1, k0_pay15 (bestAll x0 x1 x2) (View.ld x3 rSel1)⟩,
    ⟨rW0, k0_pay12 edgeNo (best0 x0 x1 x2) (rest0 x0 x1 x2) (View.ld x3 rSel0)⟩]

/-- The indices' block after the body at grid point `i`: the first plane's store, then the three strided ones, the
    last first. -/
def outE (i : grid0.Coords) : Vec F S2x96x128 .i32 :=
  View.canon [⟨rN, k0_pay20 (BitVec.ofNat 32 (i 0).val)⟩,
    ⟨rE2, k0_pay19 (edgeAll x0 x1 x2) (View.ld x3 rSel2)⟩,
    ⟨rE1, k0_pay16 (edgeAll x0 x1 x2) (View.ld x3 rSel1)⟩,
    ⟨rE0, k0_pay13 edgeNo (edge0 x0 x1 x2) (rest0 x0 x1 x2) (View.ld x3 rSel0)⟩]

end Values

/-! ## The stores cover the blocks -/

/-- The weights' rows whose number leaves remainder `o` on division by three are those of the strided rectangle from row `o`. -/
theorem mem_rowsW (o : ℕ) (ho : o < 3) (inb) (y : S96x128.Idx) (h : (y 0).val % 3 = o) :
    y ∈ (⟨(⟨![o, 0], S32x128.size, ![3, 1], inb⟩ : LoadRect S96x128), spos_3_1⟩ : Rect S96x128).set := by
  have h0 : (y 0).val < 96 := (y 0).isLt
  refine (LoadRect.mem_set _).mpr fun a => ?_
  match a with
  | ⟨0, _⟩ => exact ⟨(y 0).val / 3, by show _ < 32; omega, by show (y 0).val = o + 3 * _; omega⟩
  | ⟨1, _⟩ => exact ⟨(y 1).val, (y 1).isLt, by show (y 1).val = 0 + 1 * _; omega⟩

/-- The same of the indices' second plane. -/
theorem mem_rowsE (o : ℕ) (ho : o < 3) (inb) (y : S2x96x128.Idx) (hp : (y 0).val = 1) (h : (y 1).val % 3 = o) :
    y ∈ (⟨(⟨![1, o, 0], S1x32x128.size, ![1, 3, 1], inb⟩ : LoadRect S2x96x128), spos_1_3_1⟩ : Rect S2x96x128).set := by
  have h0 : (y 1).val < 96 := (y 1).isLt
  refine (LoadRect.mem_set _).mpr fun a => ?_
  match a with
  | ⟨0, _⟩ => exact ⟨0, by show 0 < 1; omega, by show (y 0).val = 1 + 1 * 0; omega⟩
  | ⟨1, _⟩ => exact ⟨(y 1).val / 3, by show _ < 32; omega, by show (y 1).val = o + 3 * _; omega⟩
  | ⟨2, _⟩ => exact ⟨(y 2).val, (y 2).isLt, by show (y 2).val = 0 + 1 * _; omega⟩

/-- The indices' first plane is the whole-plane rectangle. -/
theorem mem_planeN (y : S2x96x128.Idx) (hp : (y 0).val = 0) : y ∈ rN.set := by
  refine (LoadRect.mem_set _).mpr fun a => ?_
  match a with
  | ⟨0, _⟩ => exact ⟨0, by show 0 < 1; omega, by show (y 0).val = 0 + 1 * 0; omega⟩
  | ⟨1, _⟩ => exact ⟨(y 1).val, (y 1).isLt, by show (y 1).val = 0 + 1 * _; omega⟩
  | ⟨2, _⟩ => exact ⟨(y 2).val, (y 2).isLt, by show (y 2).val = 0 + 1 * _; omega⟩

/-- The three strided stores cover the weights' block. -/
theorem coverW (p2 : Vec F S32x128 .f32) (p1 : Vec F S32x128 .f32) (p0 : Vec F S32x128 .f32) (y : S96x128.Idx) :
    ∃ pc ∈ ([⟨rW2, p2⟩, ⟨rW1, p1⟩, ⟨rW0, p0⟩] : List (View.Piece (Elt F) S96x128 .f32)), y ∈ pc.1.set := by
  have h : (y 0).val % 3 = 2 ∨ (y 0).val % 3 = 1 ∨ (y 0).val % 3 = 0 := by omega
  rcases h with h | h | h
  · exact ⟨_, .head _, mem_rowsW 2 (by omega) _ y h⟩
  · exact ⟨_, .tail _ (.head _), mem_rowsW 1 (by omega) _ y h⟩
  · exact ⟨_, .tail _ (.tail _ (.head _)), mem_rowsW 0 (by omega) _ y h⟩

/-- The four stores cover the indices' block. -/
theorem coverE (n : Vec F S1x96x128 .i32) (p2 p1 p0 : Vec F S1x32x128 .i32) (y : S2x96x128.Idx) :
    ∃ pc ∈ ([⟨rN, n⟩, ⟨rE2, p2⟩, ⟨rE1, p1⟩, ⟨rE0, p0⟩] : List (View.Piece (Elt F) S2x96x128 .i32)), y ∈ pc.1.set := by
  have hy : (y 0).val < 2 := (y 0).isLt
  have h : (y 0).val = 0 ∨ ((y 0).val = 1 ∧ (y 1).val % 3 = 2) ∨ ((y 0).val = 1 ∧ (y 1).val % 3 = 1)
      ∨ ((y 0).val = 1 ∧ (y 1).val % 3 = 0) := by omega
  rcases h with h | ⟨hp, h⟩ | ⟨hp, h⟩ | ⟨hp, h⟩
  · exact ⟨_, .head _, mem_planeN y h⟩
  · exact ⟨_, .tail _ (.head _), mem_rowsE 2 (by omega) _ y hp h⟩
  · exact ⟨_, .tail _ (.tail _ (.head _)), mem_rowsE 1 (by omega) _ y hp h⟩
  · exact ⟨_, .tail _ (.tail _ (.tail _ (.head _))), mem_rowsE 0 (by omega) _ y hp h⟩

/-! ## The body's triple -/

set_option maxHeartbeats 4000000 in
/-- The body on whole staging buffers, the inputs at `x0 … x3` and the outputs at anything, runs to its return with the
    inputs as they were, the weights' buffer at `outW` and the indices' at `outE`. -/
theorem sound_kernel (c : Dev nD) (E : Set ℕ) (i : grid0.Coords) (arg1 : Memref sig .tc .vmem S4x4096 .f32) (harg1 : arg1.IsWhole)
    (arg2 : Memref sig .tc .vmem S4096x768 .f32) (harg2 : arg2.IsWhole) (arg3 : Memref sig .tc .vmem S64x768 .f32) (harg3 : arg3.IsWhole)
    (arg4 : Memref sig .tc .vmem S3x384x128 .f32) (harg4 : arg4.IsWhole) (arg5 : Memref sig .tc .vmem S96x128 .f32) (harg5 : arg5.IsWhole)
    (arg6 : Memref sig .tc .vmem S2x96x128 .i32) (harg6 : arg6.IsWhole)
    (x0 : Vec F S4x4096 .f32) (x1 : Vec F S4096x768 .f32) (x2 : Vec F S64x768 .f32) (x3 : Vec F S3x384x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outW x0 x1 x2 x3)
            ∗ owns (c : Thread nD τ) arg6 fullShare (outE x0 x1 x2 x3 i)) -∗ K ⟨⟩))
      ⊢ wp frame (wpE (defs₀ (F := F)) Variants.none c none) E
          (cc0__hyper_kernel i arg1 harg1 arg2 harg2 arg3 harg3 arg4 harg4 arg5 harg5 arg6 harg6) K := by
  simp only [cc0__hyper_kernel_eq_skeleton]; unfold cc0__hyper_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverW _ _ _)
  · iexists _; isplitr
    swap; · iexact H5
    ipureintro
    exact View.read_writes_eq_canon _ _ _ (coverE _ _ _ _)

end Cert.Proof.Hyper
-- ==== Proof.KernelRun.lean ====
/-
  The kernel program's run, for any float values: the body obligation at every grid point, and the launch. Every weakly
  fair execution ends, with the region's arrays at what the blocks assemble to, the two reshaped results computed from
  them, the four arguments as they were and every semaphore counter at zero.
-/
module

public import proofs.«01_k».proof.Proof.KernelBody
public import Idealize.ShloMosaic.Lib.Claim

@[expose] public section

set_option maxRecDepth 16384

noncomputable section

namespace Cert.Proof.Hyper

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at what the body leaves of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outW (iblk m c 0 t) (iblk m c 1 t) (iblk m c 2 t) (iblk m c 3 t)
    | ⟨5, _⟩ => outE (iblk m c 0 t) (iblk m c 1 t) (iblk m c 2 t) (iblk m c 3 t) (grid0.coords t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outW (iblk m c 0 t) (iblk m c 1 t) (iblk m c 2 t) (iblk m c 3 t) := by dsimp only [dats]
theorem after_5 (c : Dev nD) (t : Fin cfg0.N) :
    (dats m 0 c).after 5 t = outE (iblk m c 0 t) (iblk m c 1 t) (iblk m c 2 t) (iblk m c 3 t) (grid0.coords t) := by
  dsimp only [dats]

/-- Each input's staging buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point takes the one to the other: `sound_kernel` at the input blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s buffers is the body there. -/
theorem defs₀_row (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 1000000 in
/-- Every weakly fair execution ends, in states whose arrays are what the proof data computes, whose other buffers are
    what the two reshapes after the region leave, and whose semaphore counters are all zero. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float values: the program ends with its four arguments as they were and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.Hyper
-- ==== Proof.Literal.lean ====
/-
  The kernel is printed twice, over bit patterns and over extended reals: the two printings are one program.
-/
module

public import proofs.«01_k».proof.Proof.Gen.Kernel
public import proofs.«01_k».proof.Proof.Gen.KernelIdeal

@[expose] public section

set_option maxRecDepth 16384

noncomputable section

namespace Cert.Proof

open Idealize.ShloMosaic

set_option maxHeartbeats 4000000 in
/-- The constant's table in the one printing is its table in the other. -/
theorem lit0_eq : Cert.Kernel.lit0 = Cert.KernelIdeal.lit0 := rfl

variable {F : FTy → Type} [FloatOps F]

/-- The kernel bodies are the same, -/
theorem defs₀_eq : Cert.Kernel.defs₀ (F := F) = Cert.KernelIdeal.defs₀ (F := F) := by
  unfold Cert.Kernel.defs₀ Cert.KernelIdeal.defs₀
  congr 1
  funext l a
  match l, a with
  | ⟨0, _⟩, (t, s) => rfl

/-- so are the body tables built from them, -/
theorem defs_eq : Cert.Kernel.defs (F := F) = Cert.KernelIdeal.defs (F := F) :=
  congrArg (Pipeline.defs Cert.KernelIdeal.pcfgs) defs₀_eq

/-- and the entry functions. -/
theorem main_eq : Cert.Kernel.main (F := F) = Cert.KernelIdeal.main (F := F) := by
  unfold Cert.Kernel.main Cert.KernelIdeal.main
  rw [lit0_eq]
  rfl

end Cert.Proof
-- ==== Proof.Frames.lean ====
/-
  The three frame claims: each program runs to its end with its arguments as they were and every semaphore counter at zero.
-/
module

public import proofs.«01_k».proof.Defs
public import proofs.«01_k».proof.Proof.KernelRun
public import proofs.«01_k».proof.Proof.Literal
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel over extended reals. -/
theorem frame_kernelIdeal : Cert.quiescent_KernelIdeal := fun m ρ _ => Hyper.run_main (F := Ideal) m ρ

/-- The kernel over bit patterns: the same text, so the same run. -/
theorem frame_kernel : Cert.quiescent_Kernel := fun m ρ _ => by
  rw [main_eq, defs_eq]
  exact (θ_run Cert.KernelIdeal.defs _ _).mono (fun _ h => h) (Hyper.run_main (F := Bits) m ρ)

/-- The reference: host operations only, and no semaphore at all. -/
theorem frame_reference : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run (F := Ideal) m ρ)

end Cert.Proof
-- ==== Proof.TopThree.lean ====
module

public import Idealize.ShloMosaic.Lib.SortPrefix
public import Idealize.ShloMosaic.Lib.SortFacts
public import Idealize.ShloMosaic.PureOps.IdealRules

/-!
  Three rounds of "take the first largest entry, then strike it out" list the first three entries
  of the stable decreasing order.
-/

@[expose] public section

noncomputable section

namespace Cert.Proof

open Idealize.ShloMosaic

/-! ## One round -/

/-- `k` is the first position of the family's largest value `M`. -/
structure Pick (v : Fin 64 → EReal) (M : EReal) (k : Fin 64) : Prop where
  /-- the value at the position, -/
  top : v k = M
  /-- which no entry exceeds -/
  le : ∀ j, v j ≤ M
  /-- and no earlier entry attains. -/
  first : ∀ j, j < k → v j ≠ M

/-- The family with one entry overwritten by `-1`. -/
def strike (v : Fin 64 → EReal) (k : Fin 64) : Fin 64 → EReal := fun j => if j = k then -1 else v j

/-- Striking leaves every other entry, -/
theorem strike_of_ne {v : Fin 64 → EReal} {k j : Fin 64} (h : j ≠ k) : strike v k j = v j := if_neg h

/-- and puts `-1` at its own. -/
theorem strike_self (v : Fin 64 → EReal) (k : Fin 64) : strike v k k = -1 := if_pos rfl

/-- The largest value, folded from the bottom, has a first position. -/
theorem exists_pick (v : Fin 64 → EReal) : ∃ k, Pick v (Finset.univ.fold max ⊥ v) k := by
  have hle : ∀ j, v j ≤ Finset.univ.fold max ⊥ v := fun j =>
    (Finset.le_fold_max _).mpr (Or.inr ⟨j, Finset.mem_univ _, le_rfl⟩)
  have hex : ∃ j, v j = Finset.univ.fold max ⊥ v := by
    rcases (Finset.le_fold_max (Finset.univ.fold max ⊥ v)).mp le_rfl with h | ⟨j, -, h⟩
    · exact ⟨0, le_antisymm (hle 0) (h.trans bot_le)⟩
    · exact ⟨j, le_antisymm (hle j) h⟩
  let P : Fin 64 → Prop := fun j => v j = Finset.univ.fold max ⊥ v
  obtain ⟨k, hk, hmin⟩ := WellFounded.has_min (wellFounded_lt (α := Fin 64)) {j | P j} hex
  exact ⟨k, hk, hle, fun j hj h => hmin j h hj⟩

/-- A round over a family with an entry above `-1` never takes an entry equal to `-1`. -/
theorem Pick.ne_of_neg_one {v : Fin 64 → EReal} {M : EReal} {k a b : Fin 64} (h : Pick v M k)
    (ha : v a = -1) (hb : -1 < v b) : k ≠ a := by
  rintro rfl
  exact absurd (h.le b) (not_le.mpr (by rw [← h.top, ha]; exact hb))

/-! ## The stable order -/

/-- Before, in decreasing order of `s`, equal values by position. -/
def before (s : Fin 64 → EReal) (k k' : Fin 64) : Bool :=
  decide (s k' < s k) || (decide (s k = s k') && decide (k < k'))

/-- It is a strict total order. -/
theorem before_strict (s : Fin 64 → EReal) : StrictTotalBefore (before s) :=
  StrictTotalBefore.of_key_then_position (fun x y => decide (y < x)) s
    (by intros; simp)
    (by intro a b c h h'; simp only [decide_eq_true_eq] at *; exact h'.trans h)
    (by intro a b; simp only [decide_eq_true_eq]; rcases lt_trichotomy a b with h | h | h <;> simp [h])

/-- Inserting from the right, a relation may as well break its ties by position. -/
theorem stableSort_congr {n : Nat} (R R' : Fin n → Fin n → Bool)
    (h : ∀ a b, a < b → R b a = R' b a) :
    ∀ l : List (Fin n), l.Pairwise (· < ·) → stableSort R l = stableSort R' l
  | [], _ => rfl
  | a :: l, hl => by
    rw [List.pairwise_cons] at hl
    rw [stableSort, stableSort, stableSort_congr R R' h l hl.2]
    refine insertBefore_congr R R' a _ fun b hb => h a b (hl.1 b ?_)
    exact (perm_stableSort R' l).mem_iff.mp hb

/-- and so for the sorted positions. -/
theorem sortedFrom_congr {n : Nat} (R R' : Fin n → Fin n → Bool)
    (h : ∀ a b, a < b → R b a = R' b a) (k : Fin n) : sortedFrom R k = sortedFrom R' k := by
  have hl : sortPositions n R = sortPositions n R' :=
    stableSort_congr R R' h _ (List.pairwise_lt_finRange n)
  simp only [sortedFrom, List.get_eq_getElem]
  exact List.getElem_of_eq hl _

/-- Sorting stably by the decreasing value alone is sorting by value, then position. -/
theorem sortedFrom_value (s : Fin 64 → EReal) (k : Fin 64) :
    sortedFrom (fun a b => decide (s b < s a)) k = sortedFrom (before s) k :=
  sortedFrom_congr _ _ (fun a b h => by simp [before, not_lt.mpr h.le]) k

/-! ## Three rounds -/

/-- The family's first position of its largest value sorts before every other. -/
theorem Pick.before_eq_false {v : Fin 64 → EReal} {M : EReal} {k : Fin 64} (h : Pick v M k)
    (p : Fin 64) : before v p k = false := by
  have hp := h.le p
  rw [← h.top] at hp
  simp only [before, Bool.or_eq_false_iff, Bool.and_eq_false_iff, decide_eq_false_iff_not, not_lt]
  refine ⟨hp, ?_⟩
  by_contra hc
  simp only [not_or, not_not, not_le] at hc
  exact h.first p hc.2 (hc.1.trans h.top)

/-- The comparison reads the two entries only. -/
theorem before_congr {v s : Fin 64 → EReal} {p k : Fin 64} (hp : v p = s p) (hk : v k = s k) :
    before v p k = before s p k := by
  simp only [before, hp, hk]

/-- Three rounds over a family above `-1`, each striking out what it took, take the first three
positions of the stable decreasing order, with their values. -/
theorem rounds_eq_sorted (s : Fin 64 → EReal) (hs : ∀ j, -1 < s j) {M₀ M₁ M₂ : EReal} {k₀ k₁ k₂ : Fin 64}
    (h₀ : Pick s M₀ k₀) (h₁ : Pick (strike s k₀) M₁ k₁) (h₂ : Pick (strike (strike s k₀) k₁) M₂ k₂)
    (r : Fin 3) :
    sortedFrom (fun a b => decide (s b < s a)) (r.castLE (by decide)) = ![k₀, k₁, k₂] r
      ∧ s (![k₀, k₁, k₂] r) = ![M₀, M₁, M₂] r := by
  -- there are entries the first two rounds leave
  obtain ⟨a, ha⟩ : ∃ a : Fin 64, a ≠ k₀ := exists_ne k₀
  obtain ⟨b, hb₀, hb₁⟩ : ∃ b : Fin 64, b ≠ k₀ ∧ b ≠ k₁ := by
    obtain ⟨b, hb⟩ := Finset.exists_mem_notMem_of_card_lt_card (s := {k₀, k₁}) (t := Finset.univ)
      (lt_of_le_of_lt (Finset.card_le_two) (by simp))
    exact ⟨b, by simpa using hb⟩
  have h10 : k₁ ≠ k₀ := h₁.ne_of_neg_one (strike_self _ _) (b := a) (by rw [strike_of_ne ha]; exact hs a)
  have hbv : -1 < strike (strike s k₀) k₁ b := by rw [strike_of_ne hb₁, strike_of_ne hb₀]; exact hs b
  have h21 : k₂ ≠ k₁ := h₂.ne_of_neg_one (strike_self _ _) hbv
  have h20 : k₂ ≠ k₀ := h₂.ne_of_neg_one (by rw [strike_of_ne h10.symm, strike_self]) hbv
  have e₁ : ∀ j, j ≠ k₀ → strike s k₀ j = s j := fun j h => strike_of_ne h
  have e₂ : ∀ j, j ≠ k₀ → j ≠ k₁ → strike (strike s k₀) k₁ j = s j := fun j h h' => by
    rw [strike_of_ne h', strike_of_ne h]
  -- what each round takes is before everything not yet taken
  have b₀ : ∀ p, before s p k₀ = false := h₀.before_eq_false
  have b₁ : ∀ p, p ≠ k₀ → before s p k₁ = false := fun p hp =>
    (before_congr (e₁ p hp) (e₁ k₁ h10)).symm.trans (h₁.before_eq_false p)
  have b₂ : ∀ p, p ≠ k₀ → p ≠ k₁ → before s p k₂ = false := fun p hp hp' =>
    (before_congr (e₂ p hp hp') (e₂ k₂ h20 h21)).symm.trans (h₂.before_eq_false p)
  constructor
  · rw [sortedFrom_value]
    refine (before_strict s).sortedFrom_eq_of_prefix (by decide) ![k₀, k₁, k₂] ?_ ?_ ?_ r
    · intro i j hij
      fin_cases i <;> fin_cases j <;> first | rfl | (exfalso; simp_all)
    · intro i j hij
      fin_cases i <;> fin_cases j <;> first
        | exact absurd hij (by decide) | exact b₀ _ | exact b₁ _ h20
    · intro i p hp
      have p₀ : p ≠ k₀ := fun h => hp 0 h.symm
      have p₁ : p ≠ k₁ := fun h => hp 1 h.symm
      fin_cases i
      · exact b₀ p
      · exact b₁ p p₀
      · exact b₂ p p₀ p₁
  · fin_cases r
    · exact h₀.top
    · exact (e₁ k₁ h10).symm.trans h₁.top
    · exact (e₂ k₂ h20 h21).symm.trans h₂.top

end Cert.Proof

end

end
-- ==== Proof.Rounds.lean ====
/-
  One round of the kernel's selection, read at a node: the largest score, the first hyperedge that attains it, and the
  scores left for the next round.
-/
module

public import proofs.«01_k».proof.Proof.TopThree
public import proofs.«01_k».proof.Proof.KernelBody
public import Idealize.ShloMosaic.Lib.Pointwise

@[expose] public section

set_option maxRecDepth 16384

noncomputable section

namespace Cert.Proof.Hyper

open Cert.KernelIdeal Cert.KernelIdeal.Gen
open Idealize.ShloMosaic
open Idealize.ShloMosaic.Pointwise

/-- The scores of one node. -/
abbrev col (v : FVec Ideal S64x4096 .f32) (l : Fin 4096) : Fin 64 → EReal := fun j => v (ix2 j l)

/-! ## The kernel's float constants -/

/-- The pattern of minus infinity, -/
theorem ofBits_neg_inf : Ideal.ofBits .f32 0xFF800000#32 = ⊥ := by
  simp [Ideal.ofBits, Ideal.ieee]

/-- of plus infinity, -/
theorem ofBits_inf : Ideal.ofBits .f32 0x7F800000#32 = ⊤ := by
  simp [Ideal.ofBits, Ideal.ieee]

/-- of `-1`, -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- and of `-10⁹`. -/
theorem ofBits_neg_billion : Ideal.ofBits .f32 0xCE6E6B28#32 = ((-1000000000 : ℝ) : EReal) := by
  simp [Ideal.ofBits, Ideal.ieee, -EReal.coe_mul, -EReal.coe_neg]; norm_num

/-! ## The least of a list of words -/

/-- The smaller of two words, read as whole numbers, -/
theorem toInt_minsi (x y : BitVec 32) : (IntOp.minsi x y).toInt = min x.toInt y.toInt := by
  simp only [IntOp.minsi, BitVec.slt, decide_eq_true_eq]
  split <;> omega

/-- and a word below `2³¹` read as one. -/
theorem toInt_ofNat {n : ℕ} (h : n < 2147483648) : (BitVec.ofNat 32 n).toInt = n := by
  rw [BitVec.toInt_eq_toNat_of_lt (by rw [BitVec.toNat_ofNat]; omega), BitVec.toNat_ofNat]
  omega

/-- The signed minimum of "the position where a property holds, 64 elsewhere" is the first position
where it holds. -/
theorem fold_minsi_first (p : Fin 64 → Prop) [DecidablePred p] (k : Fin 64) (hk : p k) (hmin : ∀ j, j < k → ¬ p j) :
    Finset.univ.fold IntOp.minsi 2147483647#32 (fun x : Fin 64 => if p x then BitVec.ofNat 32 x.val else 64#32)
      = BitVec.ofNat 32 k.val := by
  have hv : ∀ x : Fin 64, (if p x then BitVec.ofNat 32 x.val else 64#32 : BitVec 32).toInt
      = if p x then (x.val : ℤ) else 64 := fun x => by
    split
    · exact toInt_ofNat (by omega)
    · rfl
  have hi : (BitVec.ofNat 32 k.val).toInt = k.val := toInt_ofNat (by omega)
  have hb : (2147483647#32 : BitVec 32).toInt = 2147483647 := rfl
  apply BitVec.eq_of_toInt_eq
  rw [← Finset.fold_hom (op' := min) (m := BitVec.toInt) toInt_minsi, hi, hb]
  simp only [hv]
  apply le_antisymm
  · exact (Finset.fold_min_le _).mpr (Or.inr ⟨k, Finset.mem_univ _, by rw [if_pos hk]⟩)
  · refine (Finset.le_fold_min _).mpr ⟨by omega, fun x _ => ?_⟩
    split
    · rename_i hx
      have : ¬ x < k := fun h => hmin x h hx
      have : k.val ≤ x.val := not_lt.mp this
      omega
    · omega

/-! ## A round -/

/-- A round's value is the largest of the node's scores. -/
theorem best_eq (v : FVec Ideal S64x4096 .f32) (l : Fin 4096) :
    k0_pay5 v (ix1 l) = Finset.univ.fold max ⊥ (col v l) := by
  pointwise [k0_pay5]
  rw [ofBits_neg_inf]

/-- A round's hyperedge is the first that attains the value. -/
theorem edge_eq (v : FVec Ideal S64x4096 .f32) (l : Fin 4096) (k : Fin 64)
    (h : Pick (col v l) (k0_pay5 v (ix1 l)) k) :
    k0_pay6 edgeNo v (ix1 l) = BitVec.ofNat 32 k.val := by
  pointwise [k0_pay6, edgeNo]
  exact fold_minsi_first (fun x => v (ix2 x l) = k0_pay5 v (ix1 l)) k h.top h.first

/-- What a round leaves is the node's scores with that one struck out. -/
theorem rest_eq (v : FVec Ideal S64x4096 .f32) (l : Fin 4096) (k : Fin 64)
    (h : k0_pay6 edgeNo v (ix1 l) = BitVec.ofNat 32 k.val) :
    col (k0_pay7 edgeNo v) l = strike (col v l) k := by
  funext j
  show k0_pay7 edgeNo v (ix2 j l) = _
  pointwise [k0_pay7, edgeNo]
  rw [show k0_pay6 (iota Kind.tc S64x4096 32 [0] iota_S64x4096_d0_w32) v (ix1 l) = _ from h, ofBits_neg_one]
  have hjk : IntOp.cmpi .eq (BitVec.ofNat 32 j.val) (BitVec.ofNat 32 k.val) = 1 ↔ j = k := by
    refine IntOp.cmpi_eq.trans ?_
    constructor
    · intro h
      have := congrArg BitVec.toNat h
      simp only [BitVec.toNat_ofNat] at this
      exact Fin.ext (by omega)
    · rintro rfl; rfl
  exact if_congr hjk rfl rfl

/-- The first round's printed values are the same operations as the second's. -/
theorem pay2_eq (x1 x2 x0) : k0_pay2 (F := Ideal) x1 x2 x0 = k0_pay5 (k0_pay1 x1 x2 x0) := rfl
theorem pay3_eq (x1 x2 x0) : k0_pay3 (F := Ideal) x1 x2 x0 = k0_pay6 edgeNo (k0_pay1 x1 x2 x0) := rfl
theorem pay4_eq (x1 x2 x0) : k0_pay4 (F := Ideal) x1 x2 x0 = k0_pay7 edgeNo (k0_pay1 x1 x2 x0) := rfl

/-- The three rounds over a block of scores: the scores each round sees, -/
def scores : Fin 3 → FVec Ideal S64x4096 .f32 → FVec Ideal S64x4096 .f32
  | 0, v => v
  | 1, v => k0_pay7 edgeNo v
  | 2, v => k0_pay7 edgeNo (k0_pay7 edgeNo v)

/-- the value a round takes, -/
abbrev best (r : Fin 3) (v : FVec Ideal S64x4096 .f32) : FVec Ideal S4096 .f32 := k0_pay5 (scores r v)

/-- and its hyperedge. -/
abbrev edge (r : Fin 3) (v : FVec Ideal S64x4096 .f32) : IVec S4096 32 := k0_pay6 edgeNo (scores r v)

/-- The vector of a family's three entries is the family. -/
theorem vec_three {α : Type} (f : Fin 3 → α) : ![f 0, f 1, f 2] = f := by
  funext r; fin_cases r <;> rfl

/-- The three rounds of a node whose scores exceed `-1` take the first three of its hyperedges in the stable
decreasing order of the scores. -/
theorem rounds_eq (v : FVec Ideal S64x4096 .f32) (l : Fin 4096) (hs : ∀ j, -1 < v (ix2 j l)) (r : Fin 3) :
    edge r v (ix1 l) = BitVec.ofNat 32 (sortedFrom (fun a b => decide (v (ix2 b l) < v (ix2 a l)))
        (r.castLE (by decide : 3 ≤ 64))).val
      ∧ best r v (ix1 l) = v (ix2 (sortedFrom (fun a b => decide (v (ix2 b l) < v (ix2 a l)))
        (r.castLE (by decide : 3 ≤ 64))) l) := by
  have pick : ∀ w : FVec Ideal S64x4096 .f32, ∃ k, Pick (col w l) (k0_pay5 w (ix1 l)) k := fun w => by
    rw [best_eq]; exact exists_pick _
  choose k hk using fun r => pick (scores r v)
  have e : ∀ r, edge r v (ix1 l) = BitVec.ofNat 32 (k r).val := fun r => edge_eq _ l (k r) (hk r)
  have c₁ : col (scores 1 v) l = strike (col v l) (k 0) := rest_eq v l (k 0) (e 0)
  have c₂ : col (scores 2 v) l = strike (strike (col v l) (k 0)) (k 1) := by
    rw [← c₁]; exact rest_eq (k0_pay7 edgeNo v) l (k 1) (e 1)
  have h₀ := hk 0
  have h₁ := hk 1
  have h₂ := hk 2
  rw [c₁] at h₁
  rw [c₂] at h₂
  obtain ⟨hσ, hv⟩ := rounds_eq_sorted (col v l) hs h₀ h₁ h₂ r
  rw [vec_three k] at hσ hv
  rw [vec_three fun r => best r v (ix1 l)] at hv
  rw [show sortedFrom (fun a b => decide (v (ix2 b l) < v (ix2 a l))) (r.castLE (by decide : 3 ≤ 64)) = k r from hσ]
  exact ⟨e r, hv.symm⟩

end Cert.Proof.Hyper

end
-- ==== Proof.Tables.lean ====
/-
  The printed literal of the kernel's fourth operand, three planes of 384 rows and 128 columns of zeros and ones, as a
  function of an index's digits.
-/
module

public import proofs.«01_k».proof.Proof.Gen.KernelIdeal

@[expose] public section

set_option maxRecDepth 65536

noncomputable section

namespace Cert.Proof.Hyper

open Idealize.ShloMosaic Cert.KernelIdeal

/-! ## The printed tables as functions of an index's digits -/

/-- The entry a table of 128 holds at a digit, `0` past the last: the printed tables' shape. -/
abbrev digit (f : Nat → BitVec 32) (d : Nat) : BitVec 32 := match d with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#32

/-- The same of the outermost table, of nine. -/
abbrev digit9 (f : Nat → BitVec 32) (d : Nat) : BitVec 32 := match d with
  | 0 => f 0
  | 1 => f 1
  | 2 => f 2
  | 3 => f 3
  | 4 => f 4
  | 5 => f 5
  | 6 => f 6
  | 7 => f 7
  | 8 => f 8
  | _ => 0#32

/-- The column of the one in row `r` of plane `w`, counted over the three planes' columns. -/
abbrev srcCol (R : Nat) : Nat := 3 * (R % 384 % 128) + R % 384 / 128

/-- Row `R`'s word at column `c`, the rows counted over the three planes: `1.0` where the plane's columns reach the row's
one, `0.0` elsewhere. -/
abbrev word (R c : Nat) : BitVec 32 :=
  bif Nat.beq (128 * (R / 384) + c) (srcCol R) then 0x3F800000#32 else 0x00000000#32

set_option maxHeartbeats 400000000 in
/-- The printed tables hold these words. -/
theorem lit0t_eq : lit0t = fun i =>
    digit9 (fun T => digit (fun R => digit (word (T * 128 + R)) (i % 128)) (i / 128 % 128)) (i / 16384) := rfl

end Cert.Proof.Hyper

end

end
-- ==== Proof.Selector.lean ====
/-
  The kernel's fourth operand at an index: where its ones are.
-/
module

public import proofs.«01_k».proof.Proof.Tables
public import Idealize.ShloMosaic.Lib.Pointwise
public import Idealize.ShloMosaic.Lib.IdealHost

@[expose] public section

set_option maxRecDepth 16384

noncomputable section

namespace Cert.Proof.Hyper

open Idealize.ShloMosaic Cert.KernelIdeal
open Idealize.ShloMosaic.Pointwise

/-! ## The planes at an index -/

/-- The case tree on a digit is the function of the digit, -/
theorem digit_apply (f : Nat → BitVec 32) (d : Nat) (h : d < 128) : digit f d = f d := by
  interval_cases d <;> rfl

/-- and so is the shorter one, -/
theorem digit9_apply (f : Nat → BitVec 32) (d : Nat) (h : d < 9) : digit9 f d = f d := by
  interval_cases d <;> rfl

/-- so a table entry is the word at its row and column. -/
theorem lit0_eq_word (i : Fin 147456) : lit0 i = word (i.val / 128) (i.val % 128) := by
  obtain ⟨i, hi⟩ := i
  show lit0t i = _
  rw [lit0t_eq]
  show digit9 _ _ = _
  rw [digit9_apply _ _ (by omega), digit_apply _ _ (by omega), digit_apply _ _ (by omega)]
  rw [show i / 16384 * 128 + i / 128 % 128 = i / 128 by omega]

/-- The row of the one in column `c` of plane `w`: the block's output position `q = 128 w + c` of a row of nodes takes
round `q % 3` (a band of 128 rows each) of node `q / 3`. -/
abbrev srcRow (w c : Nat) : Nat := 128 * ((128 * w + c) % 3) + (128 * w + c) / 3

/-- The planes at an index. -/
theorem selector_apply (w : Fin 3) (r : Fin 384) (c : Fin 128) :
    (FloatOps.ofBits .f32 (lit0 (S3x384x128.rowMajor (ix3 w r c))) : Ideal .f32)
      = if r.val = srcRow w.val c.val then 1 else 0 := by
  have hv : (S3x384x128.rowMajor (ix3 w r c)).val = (w.val * 384 + r.val) * 128 + c.val :=
    Shape.rowMajor_val_three _
  have hw : lit0 (S3x384x128.rowMajor (ix3 w r c)) = word (w.val * 384 + r.val) c.val := by
    refine (lit0_eq_word _).trans ?_
    have hc : c.val < 128 := c.isLt
    congr 1 <;> omega
  rw [hw, Ideal.ofBits_def]
  unfold word
  have hb : Nat.beq (128 * ((w.val * 384 + r.val) / 384) + c.val) (srcCol (w.val * 384 + r.val))
      = decide (r.val = srcRow w.val c.val) := by
    rw [Bool.eq_iff_iff, decide_eq_true_eq, Nat.beq_eq]
    have hc := c.isLt
    have hr := r.isLt
    have h1 : (w.val * 384 + r.val) / 384 = w.val := by omega
    have h2 : (w.val * 384 + r.val) % 384 = r.val := by omega
    unfold srcCol srcRow
    rw [h1, h2]
    clear hv hw h1 h2
    omega
  rw [hb]
  by_cases h : r.val = srcRow w.val c.val
  · rw [decide_eq_true h, if_pos h]; exact Ideal.ofBits_one_f32
  · rw [decide_eq_false h, if_neg h]; exact Ideal.ofBits_zero_f32

end Cert.Proof.Hyper

end

end
-- ==== Proof.Block.lean ====
/-
  The kernel's two output blocks at an index.

  A block of 4096 nodes' weights is 96 rows of 128 columns; its flat position `Q = 128 row + column` holds round `Q % 3` of
  node `Q / 3`. The body fills the rows of one remainder modulo three at a time, each by a product with a plane of zeros
  and ones that picks one of the 384 values (128 nodes' three rounds) for each column.
-/
module

public import proofs.«01_k».proof.Proof.Rounds
public import proofs.«01_k».proof.Proof.KernelRun
public import proofs.«01_k».proof.Proof.Selector
public import Idealize.ShloMosaic.Lib.Pipeline.Value

@[expose] public section

set_option maxRecDepth 16384

noncomputable section

namespace Cert.Proof.Hyper

open Cert.KernelIdeal Cert.KernelIdeal.Gen
open Idealize.ShloMosaic
open Idealize.ShloMosaic.Pointwise

/-! ## The three rounds side by side -/

/-- Three vectors over the nodes as 32 rows of three bands of 128 columns. -/
def side (a b d : FVec Ideal S4096 .f32) : FVec Ideal S32x384 .f32 :=
  concatenate S32x384 1 [⟨S32x128, shapeCast S32x128 a shapeCasts_S4096_S32x128⟩,
    ⟨S32x128, shapeCast S32x128 b shapeCasts_S4096_S32x128⟩, ⟨S32x128, shapeCast S32x128 d shapeCasts_S4096_S32x128⟩]
    concatenates_S32x128_S32x128_S32x128_S32x384_d1

/-- Choosing among three bands by the column's number chooses the band's. -/
theorem band {α : Type} (f : Fin 3 → Fin 4096 → α) (g : Fin 32) (r : Fin 3) (n : Fin 128)
    (h₀ : 128 * r.val + n.val < 128 → g.val * 128 + (128 * r.val + n.val) < 4096)
    (h₁ : ¬ 128 * r.val + n.val < 128 → 128 * r.val + n.val - 128 < 128 →
      g.val * 128 + (128 * r.val + n.val - 128) < 4096)
    (h₂ : ¬ 128 * r.val + n.val < 128 → ¬ 128 * r.val + n.val - 128 < 128 →
      g.val * 128 + (128 * r.val + n.val - 128 - 128) < 4096) :
    (if h : 128 * r.val + n.val < 128 then f 0 ⟨g.val * 128 + (128 * r.val + n.val), h₀ h⟩
      else if h' : 128 * r.val + n.val - 128 < 128 then f 1 ⟨g.val * 128 + (128 * r.val + n.val - 128), h₁ h h'⟩
      else f 2 ⟨g.val * 128 + (128 * r.val + n.val - 128 - 128), h₂ h h'⟩) = f r ⟨128 * g.val + n.val, by omega⟩ := by
  match r with
  | 0 =>
    refine (dif_pos (show 128 * 0 + n.val < 128 by omega)).trans (congrArg (f 0) (Fin.ext ?_))
    show g.val * 128 + (128 * 0 + n.val) = 128 * g.val + n.val
    omega
  | 1 =>
    refine (dif_neg (show ¬ 128 * 1 + n.val < 128 by omega)).trans
      ((dif_pos (show 128 * 1 + n.val - 128 < 128 by omega)).trans (congrArg (f 1) (Fin.ext ?_)))
    show g.val * 128 + (128 * 1 + n.val - 128) = 128 * g.val + n.val
    omega
  | 2 =>
    refine (dif_neg (show ¬ 128 * 2 + n.val < 128 by omega)).trans
      ((dif_neg (show ¬ 128 * 2 + n.val - 128 < 128 by omega)).trans (congrArg (f 2) (Fin.ext ?_)))
    show g.val * 128 + (128 * 2 + n.val - 128 - 128) = 128 * g.val + n.val
    omega

/-- Column `128 r + n` of row `g` is the `r`-th vector at node `128 g + n`. -/
theorem side_apply (f : Fin 3 → FVec Ideal S4096 .f32) (g : Fin 32) (r : Fin 3) (n : Fin 128) :
    side (f 0) (f 1) (f 2) (ix2 g ⟨128 * r.val + n.val, by omega⟩) = f r (ix1 ⟨128 * g.val + n.val, by omega⟩) := by
  pointwise [side]
  exact band (fun r l => f r (ix1 l)) g r n (by omega) (by omega) (by omega)

/-- The printed values' rows are the three rounds' values side by side, -/
theorem pay9_eq (v : FVec Ideal S64x4096 .f32) :
    k0_pay9 edgeNo (best 0 v) (scores 1 v) = side (best 0 v) (best 1 v) (best 2 v) := rfl

/-- and the printed hyperedges' rows the three rounds' hyperedges as floats. -/
theorem pay10_eq (v : FVec Ideal S64x4096 .f32) :
    k0_pay10 edgeNo (edge 0 v) (scores 1 v)
      = side (sitofp .f32 (edge 0 v)) (sitofp .f32 (edge 1 v)) (sitofp .f32 (edge 2 v)) := rfl

/-! ## A product with a plane of zeros and ones -/

/-- A sum of products with zeros and a single one is the entry at the one. -/
theorem one_hot (v : FVec Ideal S32x384 .f32) (y : FVec Ideal S1x384x128 .f32) (k : Fin 384) (g : Fin 32) (c : Fin 128)
    (hy : ∀ x : Fin 384, y (ix3 0 x c) = if x = k then 1 else 0) :
    ∑ x : Fin 384, v (ix2 g x) * y (ix3 0 x c) = v (ix2 g k) := by
  rw [Finset.sum_eq_single k (fun x _ hx => by rw [hy, if_neg hx, mul_zero]) (fun h => absurd (Finset.mem_univ _) h), hy,
    if_pos rfl, mul_one]

/-- So a product with a plane that holds a single one in column `c` picks the entry it marks, -/
theorem product_apply (v : FVec Ideal S32x384 .f32) (y : FVec Ideal S1x384x128 .f32) (k : Fin 384) (g : Fin 32) (c : Fin 128)
    (hy : ∀ x : Fin 384, y (ix3 0 x c) = if x = k then 1 else 0) :
    k0_pay18 v y (ix2 g c) = v (ix2 g k) := by
  pointwise [k0_pay18, k0_pay17]
  exact one_hot v y k g c hy

/-- and so does the product that is rounded to whole numbers. -/
theorem rounded_apply (v : FVec Ideal S32x384 .f32) (y : FVec Ideal S1x384x128 .f32) (k : Fin 384) (g : Fin 32) (c : Fin 128)
    (hy : ∀ x : Fin 384, y (ix3 0 x c) = if x = k then 1 else 0) :
    k0_pay19 v y (ix3 0 g c) = Ideal.fptosi 32 (v (ix2 g k)) := by
  pointwise [k0_pay19, k0_pay17]
  rw [one_hot v y k g c hy]
  rfl

/-- The three stores' payloads are one function of the plane. -/
theorem pay15_eq (v y) : k0_pay15 (F := Ideal) v y = k0_pay18 v y := rfl
theorem pay12_eq (a b d y) : k0_pay12 (F := Ideal) a b d y = k0_pay18 (k0_pay9 a b d) y := rfl
theorem pay16_eq (v y) : k0_pay16 (F := Ideal) v y = k0_pay19 v y := rfl
theorem pay13_eq (a b d y) : k0_pay13 (F := Ideal) a b d y = k0_pay19 (k0_pay10 a b d) y := rfl

/-- A small whole number comes back from the floats. -/
theorem fptosi_toInt (n : ℕ) (h : n < 64) :
    Ideal.fptosi 32 ((((BitVec.ofNat 32 n).toInt : ℝ)) : EReal) = BitVec.ofNat 32 n := by
  rw [toInt_ofNat (by omega), Ideal.fptosi, Ideal.toIntClamped_coe, if_pos (by positivity)]
  rw [Int.floor_intCast, min_eq_right (by norm_num; omega), max_eq_right (by norm_num)]
  rfl

/-- The node numbers' word: a third of the flat position, taken by a multiplication and a shift. -/
theorem nodeNo_apply (t : ℕ) (ht : t < 2) (row : Fin 96) (c : Fin 128) :
    k0_pay20 (BitVec.ofNat 32 t) (ix3 0 row c) = BitVec.ofNat 32 (4096 * t + (128 * row.val + c.val) / 3) := by
  pointwise [k0_pay20]
  have hx : (128 * row.val + c.val) * 21846 < 2 ^ 31 := by omega
  have hp : IntOp.muli (IntOp.addi (IntOp.muli (BitVec.ofNat 32 row.val) 128#32) (BitVec.ofNat 32 c.val)) 21846#32
      = BitVec.ofNat 32 ((128 * row.val + c.val) * 21846) := by
    apply BitVec.eq_of_toNat_eq
    simp only [IntOp.muli, IntOp.addi, BitVec.toNat_mul, BitVec.toNat_add, BitVec.toNat_ofNat]
    omega
  have hn : (BitVec.ofNat 32 ((128 * row.val + c.val) * 21846)).toNat = (128 * row.val + c.val) * 21846 := by
    rw [BitVec.toNat_ofNat, Nat.mod_eq_of_lt (by omega)]
  have hm : (BitVec.ofNat 32 ((128 * row.val + c.val) * 21846)).msb = false := by
    rw [BitVec.msb_eq_false_iff_two_mul_lt, hn]
    omega
  have ha : Scalar.muli 4096#32 (BitVec.ofNat 32 t) = BitVec.ofNat 32 (4096 * t) := by
    interval_cases t <;> rfl
  rw [hp, ha]
  unfold IntOp.shrsi
  rw [if_pos (by decide)]
  show BitVec.ofNat 32 (4096 * t) + (BitVec.ofNat 32 ((128 * row.val + c.val) * 21846)).sshiftRight 16 = _
  rw [BitVec.sshiftRight_eq_of_msb_false hm]
  apply BitVec.eq_of_toNat_eq
  rw [BitVec.toNat_add, BitVec.toNat_ushiftRight, hn, Nat.shiftRight_eq_div_pow, BitVec.toNat_ofNat, BitVec.toNat_ofNat,
    show (128 * row.val + c.val) * 21846 / 2 ^ 16 = (128 * row.val + c.val) / 3 by omega]
  omega

/-! ## The blocks -/

section Blocks

variable (v : FVec Ideal S64x4096 .f32)

/-- The weights' block at an index, -/
def blockW (y : S96x128.Idx) : EReal :=
  best ⟨(128 * (y 0).val + (y 1).val) % 3, by omega⟩ v (ix1 ⟨(128 * (y 0).val + (y 1).val) / 3, by
    have h0 : (y 0).val < 96 := (y 0).isLt
    have h1 : (y 1).val < 128 := (y 1).isLt
    omega⟩)

/-- and the hyperedges' block at grid point `t`: node numbers on the first plane, hyperedges on the second. -/
def blockE (t : ℕ) (y : S2x96x128.Idx) : BitVec 32 :=
  if (y 0).val = 0 then BitVec.ofNat 32 (4096 * t + (128 * (y 1).val + (y 2).val) / 3)
  else edge ⟨(128 * (y 1).val + (y 2).val) % 3, by omega⟩ v (ix1 ⟨(128 * (y 1).val + (y 2).val) / 3, by
    have h0 : (y 1).val < 96 := (y 1).isLt
    have h1 : (y 2).val < 128 := (y 2).isLt
    omega⟩)

/-- A column's source among the 384: its round's band and its node's place in it. -/
theorem srcRow_lt (w : Fin 3) (c : Fin 128) : srcRow w.val c.val < 384 := by
  have hw := w.isLt
  have hc := c.isLt
  unfold srcRow
  omega

/-- A row of three bands at a column's source is the column's round of the column's node. -/
theorem side_src (f : Fin 3 → FVec Ideal S4096 .f32) (g : Fin 32) (w : Fin 3) (c : Fin 128) :
    side (f 0) (f 1) (f 2) (ix2 g ⟨srcRow w.val c.val, srcRow_lt w c⟩)
      = f ⟨(128 * w.val + c.val) % 3, by omega⟩ (ix1 ⟨128 * g.val + (128 * w.val + c.val) / 3, by omega⟩) :=
  side_apply f g ⟨(128 * w.val + c.val) % 3, by omega⟩ ⟨(128 * w.val + c.val) / 3, by omega⟩

/-- The blocks at row `3 g + w`. -/
theorem blockW_row (y : S96x128.Idx) (g : Fin 32) (w : Fin 3) (c : Fin 128) (h0 : (y 0).val = w.val + 3 * g.val)
    (h1 : (y 1).val = c.val) :
    blockW v y = best ⟨(128 * w.val + c.val) % 3, by omega⟩ v (ix1 ⟨128 * g.val + (128 * w.val + c.val) / 3, by omega⟩) := by
  have e : 128 * (y 0).val + (y 1).val = 384 * g.val + (128 * w.val + c.val) := by omega
  have e1 : (128 * (y 0).val + (y 1).val) % 3 = (128 * w.val + c.val) % 3 := by omega
  have e2 : (128 * (y 0).val + (y 1).val) / 3 = 128 * g.val + (128 * w.val + c.val) / 3 := by omega
  unfold blockW
  simp only [e1, e2]

/-- The same of the hyperedges. -/
theorem blockE_row (t : ℕ) (y : S2x96x128.Idx) (g : Fin 32) (w : Fin 3) (c : Fin 128) (hp : (y 0).val = 1)
    (h0 : (y 1).val = w.val + 3 * g.val) (h1 : (y 2).val = c.val) :
    blockE v t y = edge ⟨(128 * w.val + c.val) % 3, by omega⟩ v (ix1 ⟨128 * g.val + (128 * w.val + c.val) / 3, by omega⟩) := by
  have e : 128 * (y 1).val + (y 2).val = 384 * g.val + (128 * w.val + c.val) := by omega
  have e1 : (128 * (y 1).val + (y 2).val) % 3 = (128 * w.val + c.val) % 3 := by omega
  have e2 : (128 * (y 1).val + (y 2).val) / 3 = 128 * g.val + (128 * w.val + c.val) / 3 := by omega
  unfold blockE
  rw [if_neg (by omega)]
  simp only [e1, e2]

/-- A round's hyperedge comes back from the floats. -/
theorem fptosi_edge (r : Fin 3) (l : Fin 4096) :
    Ideal.fptosi 32 (((edge r v (ix1 l)).toInt : ℝ) : EReal) = edge r v (ix1 l) := by
  obtain ⟨k, hk⟩ : ∃ k, Pick (col (scores r v) l) (k0_pay5 (scores r v) (ix1 l)) k := by
    rw [best_eq]; exact exists_pick _
  rw [show edge r v (ix1 l) = BitVec.ofNat 32 k.val from edge_eq _ l k hk]
  exact fptosi_toInt k.val (by omega)

variable (x3 : Vec Ideal S3x384x128 .f32)
  (hsel : ∀ (w : Fin 3) (r : Fin 384) (c : Fin 128), x3 (ix3 w r c) = if r.val = srcRow w.val c.val then 1 else 0)

include hsel

/-- A loaded plane of the selector. -/
theorem plane_apply (w : Fin 3) (inb) (c : Fin 128) (x : Fin 384) :
    (View.ld x3 (Rect.unit (s := S3x384x128) ![w.val, 0, 0] S1x384x128.size inb) : FVec Ideal S1x384x128 .f32) (ix3 0 x c)
      = if x = ⟨srcRow w.val c.val, srcRow_lt w c⟩ then 1 else 0 := by
  have hi : (Rect.unit (s := S3x384x128) ![w.val, 0, 0] S1x384x128.size inb).idx (ix3 0 x c) = ix3 w x c := by
    funext a
    match a with
    | ⟨0, _⟩ => exact Fin.ext (by show w.val + 1 * 0 = w.val; omega)
    | ⟨1, _⟩ => exact Fin.ext (by show 0 + 1 * x.val = x.val; omega)
    | ⟨2, _⟩ => exact Fin.ext (by show 0 + 1 * c.val = c.val; omega)
  refine (congrArg x3 hi).trans ((hsel w x c).trans ?_)
  exact if_congr (by rw [Fin.ext_iff]) rfl rfl

/-- What the store to the rows of remainder `w` writes: into the weights' block, -/
theorem storeW (w : Fin 3) (inb) (g : Fin 32) (c : Fin 128) :
    k0_pay18 (side (best 0 v) (best 1 v) (best 2 v))
        (View.ld x3 (Rect.unit (s := S3x384x128) ![w.val, 0, 0] S1x384x128.size inb)) (ix2 g c)
      = best ⟨(128 * w.val + c.val) % 3, by omega⟩ v (ix1 ⟨128 * g.val + (128 * w.val + c.val) / 3, by omega⟩) :=
  (product_apply _ _ _ g c (plane_apply x3 hsel w inb c)).trans (side_src (fun r => best r v) g w c)

/-- and into the hyperedges'. -/
theorem storeE (w : Fin 3) (inb) (g : Fin 32) (c : Fin 128) :
    k0_pay19 (side (sitofp .f32 (edge 0 v)) (sitofp .f32 (edge 1 v)) (sitofp .f32 (edge 2 v)))
        (View.ld x3 (Rect.unit (s := S3x384x128) ![w.val, 0, 0] S1x384x128.size inb)) (ix3 0 g c)
      = edge ⟨(128 * w.val + c.val) % 3, by omega⟩ v (ix1 ⟨128 * g.val + (128 * w.val + c.val) / 3, by omega⟩) := by
  rw [rounded_apply _ _ _ g c (plane_apply x3 hsel w inb c), side_src (fun r => sitofp .f32 (edge r v)) g w c]
  exact fptosi_edge v _ _

end Blocks

/-- Three pieces that agree with `G` on their rows assemble to `G`; -/
theorem canonW (G : S96x128.Idx → EReal) (p2 p1 p0 : Vec Ideal S32x128 .f32)
    (h2 : ∀ g c, p2 (ix2 g c) = G (rW2.emb (ix2 g c))) (h1 : ∀ g c, p1 (ix2 g c) = G (rW1.emb (ix2 g c)))
    (h0 : ∀ g c, p0 (ix2 g c) = G (rW0.emb (ix2 g c))) :
    (View.canon [⟨rW2, p2⟩, ⟨rW1, p1⟩, ⟨rW0, p0⟩] : Vec Ideal S96x128 .f32) = G := by
  have hx : ∀ x : S32x128.Idx, x = ix2 (x 0) (x 1) := fun x => funext fun a => by
    match a with
    | ⟨0, _⟩ => rfl
    | ⟨1, _⟩ => rfl
  funext y
  refine View.canon_apply_of_pieces (Val := Elt Ideal) (e := .f32) G _ ?_ y (coverW p2 p1 p0 y)
  intro p hp
  simp only [List.mem_cons, List.not_mem_nil, or_false] at hp
  rcases hp with rfl | rfl | rfl
  · intro x; rw [hx x]; exact h2 _ _
  · intro x; rw [hx x]; exact h1 _ _
  · intro x; rw [hx x]; exact h0 _ _

/-- and four do. -/
theorem canonE (G : S2x96x128.Idx → BitVec 32) (n : Vec Ideal S1x96x128 .i32) (p2 p1 p0 : Vec Ideal S1x32x128 .i32)
    (hn : ∀ r c, n (ix3 0 r c) = G (rN.emb (ix3 0 r c)))
    (h2 : ∀ g c, p2 (ix3 0 g c) = G (rE2.emb (ix3 0 g c))) (h1 : ∀ g c, p1 (ix3 0 g c) = G (rE1.emb (ix3 0 g c)))
    (h0 : ∀ g c, p0 (ix3 0 g c) = G (rE0.emb (ix3 0 g c))) :
    (View.canon [⟨rN, n⟩, ⟨rE2, p2⟩, ⟨rE1, p1⟩, ⟨rE0, p0⟩] : Vec Ideal S2x96x128 .i32) = G := by
  have hx : ∀ x : S1x32x128.Idx, x = ix3 0 (x 1) (x 2) := fun x => funext fun a => by
    match a with
    | ⟨0, _⟩ => exact Fin.ext (by have : (x 0).val < 1 := (x 0).isLt; show (x 0).val = 0; omega)
    | ⟨1, _⟩ => rfl
    | ⟨2, _⟩ => rfl
  have hx' : ∀ x : S1x96x128.Idx, x = ix3 0 (x 1) (x 2) := fun x => funext fun a => by
    match a with
    | ⟨0, _⟩ => exact Fin.ext (by have : (x 0).val < 1 := (x 0).isLt; show (x 0).val = 0; omega)
    | ⟨1, _⟩ => rfl
    | ⟨2, _⟩ => rfl
  funext y
  refine View.canon_apply_of_pieces (Val := Elt Ideal) (e := .i32) G _ ?_ y (coverE n p2 p1 p0 y)
  intro p hp
  simp only [List.mem_cons, List.not_mem_nil, or_false] at hp
  rcases hp with rfl | rfl | rfl | rfl
  · intro x; rw [hx' x]; exact hn _ _
  · intro x; rw [hx x]; exact h2 _ _
  · intro x; rw [hx x]; exact h1 _ _
  · intro x; rw [hx x]; exact h0 _ _

section Outs

variable (x0 : Vec Ideal S4x4096 .f32) (x1 : Vec Ideal S4096x768 .f32) (x2 : Vec Ideal S64x768 .f32)
  (x3 : Vec Ideal S3x384x128 .f32)
  (hsel : ∀ (w : Fin 3) (r : Fin 384) (c : Fin 128), x3 (ix3 w r c) = if r.val = srcRow w.val c.val then 1 else 0)

/-- The block of scores the body computes. -/
abbrev scoreBlock : FVec Ideal S64x4096 .f32 :=
  k0_pay1 (F := Ideal) (View.ld x1 rNode) (View.ld x2 rHyper) (View.ld x0 rMask)

/-- The three rounds' scores and hyperedges, of the block of scores. -/
theorem bestAll_eq : bestAll (F := Ideal) x0 x1 x2
    = side (best 0 (scoreBlock x0 x1 x2)) (best 1 (scoreBlock x0 x1 x2)) (best 2 (scoreBlock x0 x1 x2)) := by
  unfold bestAll best0 rest0
  rw [pay2_eq, pay4_eq]
  exact pay9_eq _

/-- The three rounds' hyperedges as floats, of the block of scores. -/
theorem edgeAll_eq : edgeAll (F := Ideal) x0 x1 x2
    = side (sitofp .f32 (edge 0 (scoreBlock x0 x1 x2))) (sitofp .f32 (edge 1 (scoreBlock x0 x1 x2)))
      (sitofp .f32 (edge 2 (scoreBlock x0 x1 x2))) := by
  unfold edgeAll edge0 rest0
  rw [pay3_eq, pay4_eq]
  exact pay10_eq _

include hsel

/-- The weights' block after the body, -/
theorem outW_eq : outW x0 x1 x2 x3 = blockW (scoreBlock x0 x1 x2) := by
  unfold outW
  rw [pay12_eq, pay15_eq]
  simp only [show k0_pay9 edgeNo (best0 x0 x1 x2) (rest0 x0 x1 x2) = _ from bestAll_eq x0 x1 x2]
  refine canonW _ _ _ _ (fun g c => ?_) (fun g c => ?_) fun g c => ?_
  · exact (storeW _ x3 hsel 2 _ g c).trans
      (blockW_row _ _ g 2 c rfl (by show 0 + 1 * c.val = c.val; omega)).symm
  · exact (storeW _ x3 hsel 1 _ g c).trans
      (blockW_row _ _ g 1 c rfl (by show 0 + 1 * c.val = c.val; omega)).symm
  · exact (storeW _ x3 hsel 0 _ g c).trans
      (blockW_row _ _ g 0 c rfl (by show 0 + 1 * c.val = c.val; omega)).symm

/-- and the hyperedges'. -/
theorem outE_eq (i : grid0.Coords) : outE x0 x1 x2 x3 i = blockE (scoreBlock x0 x1 x2) (i 0).val := by
  unfold outE
  rw [pay13_eq, pay16_eq]
  simp only [show k0_pay10 edgeNo (edge0 x0 x1 x2) (rest0 x0 x1 x2) = _ from edgeAll_eq x0 x1 x2]
  refine canonE _ _ _ _ _ (fun r c => ?_) (fun g c => ?_) (fun g c => ?_) fun g c => ?_
  · refine (nodeNo_apply (i 0).val (i 0).isLt r c).trans ?_
    unfold blockE
    rw [if_pos (by rfl)]
    refine congrArg (BitVec.ofNat 32) ?_
    show _ = 4096 * (i 0).val + (128 * (0 + 1 * r.val) + (0 + 1 * c.val)) / 3
    rw [Nat.one_mul, Nat.one_mul, Nat.zero_add, Nat.zero_add]
  · exact (storeE _ x3 hsel 2 _ g c).trans
      (blockE_row _ _ _ g 2 c rfl rfl (by show 0 + 1 * c.val = c.val; omega)).symm
  · exact (storeE _ x3 hsel 1 _ g c).trans
      (blockE_row _ _ _ g 1 c rfl rfl (by show 0 + 1 * c.val = c.val; omega)).symm
  · exact (storeE _ x3 hsel 0 _ g c).trans
      (blockE_row _ _ _ g 0 c rfl rfl (by show 0 + 1 * c.val = c.val; omega)).symm

end Outs

end Cert.Proof.Hyper

end
-- ==== Proof.Scores.lean ====
/-
  The kernel's scores and the reference's.
-/
module

public import proofs.«01_k».proof.Proof.Rounds
public import proofs.«01_k».proof.Proof.Gen.ReferenceIdeal.Read
public import proofs.«01_k».proof.Proof.Gen.ReferenceIdeal.Run

@[expose] public section

set_option maxRecDepth 16384

noncomputable section

namespace Cert.Proof.Hyper

open Idealize.ShloMosaic
open Idealize.ShloMosaic.Pointwise

/-! ## A node's similarities and their softmax -/

/-- The similarities of one node to the 64 hyperedges, from the node's four mask entries, its embedding and the
hyperedges' embeddings: `-10⁹` everywhere when the mean of the mask entries is below one half, the rectified inner
products otherwise. -/
def simRow (mk : Fin 4 → EReal) (nd : Fin 768 → EReal) (he : Fin 64 → Fin 768 → EReal) : Fin 64 → EReal := fun j =>
  if Ideal.div (∑ x, mk x) (Ideal.ofBits .f32 0x40800000#32) < Ideal.ofBits .f32 0x3F000000#32
  then Ideal.ofBits .f32 0xCE6E6B28#32 else max (∑ x, nd x * he j x) 0

/-- The softmax of 64 numbers, the largest subtracted first. -/
def softRow (a : Fin 64 → EReal) : Fin 64 → EReal := fun j =>
  Ideal.div (Ideal.exp (a j - Finset.univ.fold max ⊥ a)) (∑ x, Ideal.exp (a x - Finset.univ.fold max ⊥ a))

/-- The exponential is never negative, -/
theorem exp_nonneg (x : EReal) : 0 ≤ Ideal.exp x := by
  induction x using EReal.rec with
  | bot => exact le_rfl
  | top => exact le_top
  | coe r => exact EReal.coe_nonneg.mpr (Real.exp_pos r).le

/-- and positive but at minus infinity. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

/-- The softmax of finite numbers is not negative, so it exceeds `-1`. -/
theorem softRow_gt (a : Fin 64 → EReal) (hb : ∀ j, a j ≠ ⊥) (ht : ∀ j, a j < ⊤) (j : Fin 64) : -1 < softRow a j := by
  obtain ⟨k, hk⟩ := exists_pick a
  have hM : Finset.univ.fold max ⊥ a ≠ ⊤ := by rw [← hk.top]; exact (ht k).ne
  have hx : 0 < Ideal.exp (a j - Finset.univ.fold max ⊥ a) := by
    refine exp_pos ?_
    rw [sub_eq_add_neg, Ne, EReal.add_eq_bot_iff, EReal.neg_eq_bot_iff]
    exact fun h => h.elim (hb j) hM
  have h0 : (-1 : EReal) < 0 := by
    rw [show (-1 : EReal) = ((-1 : ℝ) : EReal) by rw [EReal.coe_neg, EReal.coe_one]]
    exact EReal.coe_neg'.mpr (by norm_num)
  unfold softRow Ideal.div
  rw [if_pos hx]
  split
  · exact h0.trans EReal.zero_lt_top
  · refine h0.trans_le (mul_nonneg hx.le (EReal.inv_nonneg_of_nonneg (Finset.sum_nonneg fun x _ => exp_nonneg _)))

/-- A similarity is never minus infinity. -/
theorem simRow_ne_bot (mk : Fin 4 → EReal) (nd : Fin 768 → EReal) (he : Fin 64 → Fin 768 → EReal) (j : Fin 64) :
    simRow mk nd he j ≠ ⊥ := by
  unfold simRow
  split
  · rw [ofBits_neg_billion]; exact EReal.coe_ne_bot _
  · exact ((EReal.bot_lt_zero).trans_le (le_max_right _ _)).ne'

/-- Of finite embeddings it is no infinity at all. -/
theorem simRow_lt_top (mk : Fin 4 → EReal) (nd : Fin 768 → EReal) (he : Fin 64 → Fin 768 → EReal)
    (hn : ∀ x, ∃ r : ℝ, nd x = r) (hh : ∀ j x, ∃ r : ℝ, he j x = r) (j : Fin 64) : simRow mk nd he j < ⊤ := by
  obtain ⟨s, hs⟩ : ∃ s : ℝ, ∑ x, nd x * he j x = s := by
    refine Finset.sum_induction _ (fun s : EReal => ∃ r : ℝ, s = r) ?_ ⟨0, EReal.coe_zero.symm⟩ fun x _ => ?_
    · rintro _ _ ⟨a, rfl⟩ ⟨b, rfl⟩; exact ⟨a + b, (EReal.coe_add a b).symm⟩
    · obtain ⟨a, ha⟩ := hn x
      obtain ⟨b, hb⟩ := hh j x
      exact ⟨a * b, by rw [ha, hb, EReal.coe_mul]⟩
  unfold simRow
  split
  · rw [ofBits_neg_billion]; exact EReal.coe_lt_top _
  · rw [hs]; exact max_lt (EReal.coe_lt_top s) EReal.zero_lt_top

/-! ## The kernel's scores -/

section
open Cert.KernelIdeal Cert.KernelIdeal.Gen

set_option maxHeartbeats 2000000 in
/-- The kernel's score block holds the softmax of each node's similarities. -/
theorem score_eq (x1 : FVec Ideal S4096x768 .f32) (x2 : FVec Ideal S64x768 .f32) (x0 : FVec Ideal S4x4096 .f32)
    (j : Fin 64) (l : Fin 4096) :
    k0_pay1 (F := Ideal) x1 x2 x0 (ix2 j l)
      = softRow (simRow (fun x => x0 (ix2 x l)) (fun x => x1 (ix2 l x)) fun j x => x2 (ix2 j x)) j := by
  pointwise [k0_pay1]
  simp only [ofBits_neg_inf, mul_comm (x2 _) _]
  rfl

end

/-! ## The reference's scores -/

section
open Cert.ReferenceIdeal Cert.ReferenceIdeal.Gen Cert.ReferenceIdeal.Read

set_option maxHeartbeats 2000000 in
/-- The reference's similarities, -/
theorem ref_sim_eq (x1 : FVec Ideal S4x8192 .f32) (x2 : FVec Ideal S8192x768 .f32) (x3 : FVec Ideal S64x768 .f32)
    (n : Fin 8192) (j : Fin 64) :
    val_main_v11 (F := Ideal) x1 x2 x3 (ix2 n j)
      = simRow (fun x => x1 (ix2 x n)) (fun x => x2 (ix2 n x)) (fun j x => x3 (ix2 j x)) j := by
  pointwise [val_main_v11, val_main_call1_v1, val_main_call1_v0, val_main_cst_3, val_main_v10, val_main_v9, val_main_cst_2, val_main_v8, val_main_v7, val_main_v6, val_main_cst_1, val_main_v5, val_main_cst_0, val_main_v4, val_main_call0_v0, val_main_call0_cst, val_main_v3, val_main_v2, val_main_v1, val_main_v0, val_main_cst]
  rfl

set_option maxHeartbeats 2000000 in
/-- and its scores. -/
theorem ref_score_eq (x1 : FVec Ideal S4x8192 .f32) (x2 : FVec Ideal S8192x768 .f32) (x3 : FVec Ideal S64x768 .f32)
    (n : Fin 8192) (j : Fin 64) :
    val_main_v22 (F := Ideal) x1 x2 x3 (ix2 n j)
      = softRow (simRow (fun x => x1 (ix2 x n)) (fun x => x2 (ix2 n x)) fun j x => x3 (ix2 j x)) j := by
  pointwise [val_main_v22, val_main_v21, val_main_v20, val_main_v19, val_main_cst_6, val_main_v18, val_main_v17, val_main_v16, val_main_v15, val_main_v14, val_main_v13, val_main_cst_5, val_main_v12, val_main_cst_4]
  simp only [ref_sim_eq, ofBits_neg_inf, max_eq_right bot_le]
  rfl

/-! ## The reference's selection -/

/-- The place of rank `r` of node `n`'s scores in the stable decreasing order. -/
abbrev place (x : FVec Ideal S8192x64 .f32) (n : Fin 8192) (r : Fin 3) : Fin 64 :=
  sortedFrom (fun a b => decide (x (ix2 n b) < x (ix2 n a))) (r.castLE (by decide : 3 ≤ 64))

/-- An index moved along its second coordinate. -/
theorem along_ix2 (n : Fin 8192) (j k : Fin 64) : (ix2 n j : S8192x64.Idx).along 1 k = ix2 n k := by
  funext i
  match i with
  | ⟨0, _⟩ => rfl
  | ⟨1, _⟩ => rfl

/-- Sorting two operands along the second axis by the first one's values, read at an index. -/
theorem sort2_apply {β : Type} (x : FVec Ideal S8192x64 .f32) (y : S8192x64.Idx → β) (n : Fin 8192) (j : Fin 64) :
    (Host.sort2 S8192x64 1 (fun l r => FloatOps.cmpfTotal (F := Ideal) (φ := .f32) .gt l.1 r.1) x y).1 (ix2 n j)
        = x (ix2 n (sortedFrom (fun a b => decide (x (ix2 n b) < x (ix2 n a))) j))
      ∧ (Host.sort2 S8192x64 1 (fun l r => FloatOps.cmpfTotal (F := Ideal) (φ := .f32) .gt l.1 r.1) x y).2 (ix2 n j)
        = y (ix2 n (sortedFrom (fun a b => decide (x (ix2 n b) < x (ix2 n a))) j)) := by
  have hlt : (fun a b : Fin 64 => decide (x (ix2 n b) < x (ix2 n a)))
      = fun a b => FloatOps.cmpfTotal (F := Ideal) (φ := .f32) .gt (x ((ix2 n j : S8192x64.Idx).along 1 a))
          (x ((ix2 n j : S8192x64.Idx).along 1 b)) == 1#1 := by
    funext a b
    rw [Ideal.cmpfTotal_def, along_ix2, along_ix2]
    show _ = (BitVec.ofBool (decide (x (ix2 n b) < x (ix2 n a))) == 1#1)
    cases decide (x (ix2 n b) < x (ix2 n a)) <;> rfl
  have hi := (along_ix2 n j _).trans (congrArg (fun R => (ix2 n (sortedFrom R j) : S8192x64.Idx)) hlt.symm)
  unfold Host.sort2
  rw [dif_pos (show 1 < S8192x64.rank by decide)]
  exact ⟨congrArg x hi, congrArg y hi⟩

/-- The first three columns of an array, at an index. -/
theorem slice_apply {α : Type} (x : S8192x64.Idx → α) (n : Fin 8192) (r : Fin 3) :
    extractStridedSlice S8192x3 (fun _ => 0) x sliceFits_S8192x64_S8192x3 (ix2 n r)
      = x (ix2 n (r.castLE (by decide : 3 ≤ 64))) := by
  refine congrArg x (funext fun i => ?_)
  match i with
  | ⟨0, _⟩ => exact Fin.ext (Nat.zero_add _)
  | ⟨1, _⟩ => exact Fin.ext (Nat.zero_add _)

/-- An entry's position on the second axis, as `top_k` numbers them. -/
abbrev position : IVec S8192x64 32 := fun i =>
  if hd : 1 < S8192x64.rank then iotaInDim S8192x64 32 ⟨1, hd⟩ i else 0#32

/-- The values `top_k` returns, -/
theorem topK_value (x : FVec Ideal S8192x64 .f32) (n : Fin 8192) (r : Fin 3) :
    (Host.topK S8192x3 1 (FloatOps.cmpfTotal (F := Ideal) (φ := .f32) .gt) x sliceFits_S8192x64_S8192x3).1 (ix2 n r)
      = x (ix2 n (place x n r)) :=
  (slice_apply _ n r).trans (sort2_apply x position n _).1

/-- and their positions. -/
theorem topK_index (x : FVec Ideal S8192x64 .f32) (n : Fin 8192) (r : Fin 3) :
    (Host.topK S8192x3 1 (FloatOps.cmpfTotal (F := Ideal) (φ := .f32) .gt) x sliceFits_S8192x64_S8192x3).2 (ix2 n r)
      = BitVec.ofNat 32 (place x n r).val :=
  ((slice_apply _ n r).trans (sort2_apply x position n _).2).trans (dif_pos (by decide : 1 < S8192x64.rank))

end

end Cert.Proof.Hyper

end
-- ==== Proof.Inputs.lean ====
/-
  What the kernel's body reads at a grid point: a block of nodes, all hyperedges, and the selector.

  At point `t` the two node-indexed arguments are read at nodes `4096 t …`, so the block of scores the body computes is the
  reference's scores of those nodes, transposed; and under the precondition each round of the body takes the node's next
  place in the reference's order.
-/
module

public import proofs.«01_k».proof.Proof.Block
public import proofs.«01_k».proof.Proof.Scores
public import Idealize.ShloMosaic.Lib.StableHlo.Run

@[expose] public section

set_option maxRecDepth 16384

noncomputable section

namespace Cert.Proof.Hyper

open Cert.KernelIdeal Cert.KernelIdeal.Gen

open Idealize.ShloMosaic Idealize.ShloMosaic.TcCoe Idealize.SL Idealize.SL.Sem
open Idealize.ShloMosaic.Pipeline (Dat Cfg Window)

variable (m : (ℓ : Loc nD τ sig) → Buf (Elt Ideal) ℓ) (c : Dev nD)

/-- The three arguments the kernel reads. -/
abbrev maskArg : FVec Ideal S4x8192 .f32 := m ((c : Thread nD τ).loc main_arg1)
abbrev nodeArg : FVec Ideal S8192x768 .f32 := m ((c : Thread nD τ).loc main_arg2)
abbrev hyperArg : FVec Ideal S64x768 .f32 := m ((c : Thread nD τ).loc main_arg3)

/-- The buffer a nullary operation writes holds its value afterwards. -/
theorem after_constant (f : Vec Ideal S3x384x128 .f32) (W : Valuation τ sig (Elt Ideal)) :
    StableHlo.after [StableHlo.nullary main_cst f] W (Proc.devRef .tc main_cst) = f := by
  after_results_simp

/-- The region finds the selector in the constant's buffer. -/
theorem V_cst (w : Fin 3) (r : Fin 384) (k : Fin 128) :
    V m c main_cst (ix3 w r k) = if r.val = srcRow w.val k.val then (1 : EReal) else 0 :=
  Eq.trans (congrFun (after_constant (fun i => FloatOps.ofBits (F := Ideal) .f32 (lit0 (S3x384x128.rowMajor i))) fun b => m (c, b))
    (ix3 w r k)) (selector_apply w r k)

/-- The grid's one coordinate is the point's number. -/
theorem coords_val (t : Fin cfg0.N) : (grid0.coords t 0).val = t.val := by
  rcases fin_N0 t with rfl | rfl <;> decide +kernel

/-- A node of block `t`. -/
theorem node_lt (t : Fin cfg0.N) (l : Fin 4096) : 4096 * t.val + l.val < 8192 := by
  have ht : t.val < 2 := t.isLt
  omega

/-- The blocks at an index: the mask, -/
theorem iblk0_apply (t : Fin cfg0.N) (x : Fin 4) (l : Fin 4096) :
    (iblk m c 0 t : Vec Ideal S4x4096 .f32) (ix2 x l) = maskArg m c (ix2 x ⟨4096 * t.val + l.val, node_lt t l⟩) := by
  have e : win0_0.index t 0 * win0_0.size 0 = 0 ∧ win0_0.index t 1 * win0_0.size 1 = 4096 * t.val := by
    rcases fin_N0 t with rfl | rfl <;> decide +kernel
  refine (congrFun (V_main_arg1 m c) _).trans (congrArg (maskArg m c) (funext fun a => ?_))
  match a with
  | ⟨0, _⟩ => exact Fin.ext (by show win0_0.index t 0 * win0_0.size 0 + 1 * x.val = x.val; rw [e.1]; omega)
  | ⟨1, _⟩ => exact Fin.ext (by show win0_0.index t 1 * win0_0.size 1 + 1 * l.val = _; rw [e.2]; show _ = 4096 * t.val + l.val; omega)

/-- The nodes' embeddings, -/
theorem iblk1_apply (t : Fin cfg0.N) (l : Fin 4096) (x : Fin 768) :
    (iblk m c 1 t : Vec Ideal S4096x768 .f32) (ix2 l x) = nodeArg m c (ix2 ⟨4096 * t.val + l.val, node_lt t l⟩ x) := by
  have e : win0_1.index t 0 * win0_1.size 0 = 4096 * t.val ∧ win0_1.index t 1 * win0_1.size 1 = 0 := by
    rcases fin_N0 t with rfl | rfl <;> decide +kernel
  refine (congrFun (V_main_arg2 m c) _).trans (congrArg (nodeArg m c) (funext fun a => ?_))
  match a with
  | ⟨0, _⟩ => exact Fin.ext (by show win0_1.index t 0 * win0_1.size 0 + 1 * l.val = _; rw [e.1]; show _ = 4096 * t.val + l.val; omega)
  | ⟨1, _⟩ => exact Fin.ext (by show win0_1.index t 1 * win0_1.size 1 + 1 * x.val = x.val; rw [e.2]; omega)

/-- the hyperedges', -/
theorem iblk2_apply (t : Fin cfg0.N) (j : Fin 64) (x : Fin 768) :
    (iblk m c 2 t : Vec Ideal S64x768 .f32) (ix2 j x) = hyperArg m c (ix2 j x) := by
  have e : win0_2.index t 0 * win0_2.size 0 = 0 ∧ win0_2.index t 1 * win0_2.size 1 = 0 := by
    rcases fin_N0 t with rfl | rfl <;> decide +kernel
  refine (congrFun (V_main_arg3 m c) _).trans (congrArg (hyperArg m c) (funext fun a => ?_))
  match a with
  | ⟨0, _⟩ => exact Fin.ext (by show win0_2.index t 0 * win0_2.size 0 + 1 * j.val = j.val; rw [e.1]; omega)
  | ⟨1, _⟩ => exact Fin.ext (by show win0_2.index t 1 * win0_2.size 1 + 1 * x.val = x.val; rw [e.2]; omega)

/-- and the selector. -/
theorem iblk3_apply (t : Fin cfg0.N) (w : Fin 3) (r : Fin 384) (k : Fin 128) :
    (iblk m c 3 t : Vec Ideal S3x384x128 .f32) (ix3 w r k) = if r.val = srcRow w.val k.val then (1 : EReal) else 0 := by
  have e : win0_3.index t 0 * win0_3.size 0 = 0 ∧ win0_3.index t 1 * win0_3.size 1 = 0 ∧ win0_3.index t 2 * win0_3.size 2 = 0 := by
    rcases fin_N0 t with rfl | rfl <;> decide +kernel
  refine Eq.trans (congrArg (V m c main_cst) (funext fun a => ?_)) (V_cst m c w r k)
  match a with
  | ⟨0, _⟩ => exact Fin.ext (by show win0_3.index t 0 * win0_3.size 0 + 1 * w.val = w.val; rw [e.1]; omega)
  | ⟨1, _⟩ => exact Fin.ext (by show win0_3.index t 1 * win0_3.size 1 + 1 * r.val = r.val; rw [e.2.1]; omega)
  | ⟨2, _⟩ => exact Fin.ext (by show win0_3.index t 2 * win0_3.size 2 + 1 * k.val = k.val; rw [e.2.2]; omega)

/-- The block of scores at grid point `t`, -/
abbrev pointScores (t : Fin cfg0.N) : FVec Ideal S64x4096 .f32 :=
  scoreBlock (iblk m c 0 t) (iblk m c 1 t) (iblk m c 2 t)

/-- the reference's similarities and scores of the same arguments, -/
abbrev refSim : FVec Ideal Cert.ReferenceIdeal.S8192x64 .f32 :=
  Cert.ReferenceIdeal.Read.val_main_v11 (F := Ideal) (maskArg m c) (nodeArg m c) (hyperArg m c)
abbrev refScore : FVec Ideal Cert.ReferenceIdeal.S8192x64 .f32 :=
  Cert.ReferenceIdeal.Read.val_main_v22 (F := Ideal) (maskArg m c) (nodeArg m c) (hyperArg m c)

/-- The block's scores are the reference's, of the block's nodes. -/
theorem pointScores_apply (t : Fin cfg0.N) (j : Fin 64) (l : Fin 4096) :
    pointScores m c t (ix2 j l) = refScore m c (ix2 ⟨4096 * t.val + l.val, node_lt t l⟩ j) := by
  have hz : (![0, 0] : Fin 2 → ℕ) = fun _ => 0 := funext fun a => by fin_cases a <;> rfl
  unfold pointScores scoreBlock
  rw [View.ld_unit_zero hz, View.ld_unit_zero hz, View.ld_unit_zero hz, score_eq]
  refine Eq.trans ?_ (ref_score_eq _ _ _ _ _).symm
  simp only [iblk0_apply, iblk1_apply, iblk2_apply]

/-- Below infinity, every similarity gives a score above −1, -/
theorem pointScores_gt (hp : ∀ n j, refSim m c (ix2 n j) < ⊤) (t : Fin cfg0.N) (j : Fin 64) (l : Fin 4096) :
    -1 < pointScores m c t (ix2 j l) := by
  rw [pointScores_apply]
  refine lt_of_lt_of_eq ?_ (ref_score_eq _ _ _ _ _).symm
  refine softRow_gt _ (fun k => ?_) (fun k => ?_) j
  · exact simRow_ne_bot _ _ _ k
  · exact lt_of_eq_of_lt (ref_sim_eq _ _ _ _ _).symm (hp _ k)

/-- so a round takes the hyperedge, and the score, at the node's next place in the reference's order. -/
theorem point_rounds (hp : ∀ n j, refSim m c (ix2 n j) < ⊤) (t : Fin cfg0.N) (l : Fin 4096) (r : Fin 3) :
    edge r (pointScores m c t) (ix1 l)
        = BitVec.ofNat 32 (place (refScore m c) ⟨4096 * t.val + l.val, node_lt t l⟩ r).val
      ∧ best r (pointScores m c t) (ix1 l)
        = refScore m c (ix2 ⟨4096 * t.val + l.val, node_lt t l⟩ (place (refScore m c) ⟨4096 * t.val + l.val, node_lt t l⟩ r)) := by
  have h := rounds_eq (pointScores m c t) l (fun j => pointScores_gt m c hp t j l) r
  simp only [pointScores_apply] at h
  exact h

end Cert.Proof.Hyper

end
-- ==== Proof.Arrays.lean ====
/-
  The kernel's two results after its run: each block the region writes back is a block of one whole array, the two blocks
  tile it, and the reshapes after the region list it.
-/
module

public import proofs.«01_k».proof.Proof.Inputs

@[expose] public section

set_option maxRecDepth 16384

noncomputable section

namespace Cert.Proof.Hyper

open Cert.KernelIdeal Cert.KernelIdeal.Gen

open Idealize.ShloMosaic Idealize.ShloMosaic.TcCoe Idealize.SL Idealize.SL.Sem
open Idealize.ShloMosaic.Pipeline (Dat Cfg Window)

/-- Entry `q` of a node's list of three, node by node: node `q / 3` at place `q % 3`. The score there, -/
def listW (x : FVec Ideal Cert.ReferenceIdeal.S8192x64 .f32) (q : Fin 24576) : EReal :=
  x (ix2 ⟨q.val / 3, by omega⟩ (place x ⟨q.val / 3, by omega⟩ ⟨q.val % 3, by omega⟩))

/-- and the pair of words: the node's number on row 0, the hyperedge's on row 1. -/
def listE (x : FVec Ideal Cert.ReferenceIdeal.S8192x64 .f32) (p : Fin 2) (q : Fin 24576) : BitVec 32 :=
  if p.val = 0 then BitVec.ofNat 32 (q.val / 3)
  else BitVec.ofNat 32 (place x ⟨q.val / 3, by omega⟩ ⟨q.val % 3, by omega⟩).val

/-- Rows of 128, listed. -/
theorem flat_lt (a : Fin 192) (b : Fin 128) : 128 * a.val + b.val < 24576 := by omega

/-- The arrays the region leaves: of scores, -/
def wholeW (x : FVec Ideal Cert.ReferenceIdeal.S8192x64 .f32) : FVec Ideal S192x128 .f32 :=
  fun y => listW x ⟨128 * (y 0).val + (y 1).val, flat_lt (y 0) (y 1)⟩
/-- and of the pairs. -/
def wholeE (x : FVec Ideal Cert.ReferenceIdeal.S8192x64 .f32) : IVec S2x192x128 32 :=
  fun y => listE x (y 0) ⟨128 * (y 1).val + (y 2).val, flat_lt (y 1) (y 2)⟩

variable (m : (ℓ : Loc nD τ sig) → Buf (Elt Ideal) ℓ) (ρ : Dev nD → PrngReg) (c : Dev nD)

section Flushed

variable (hp : ∀ n j, refSim m c (ix2 n j) < ⊤)
include hp

/-- What a point writes back is its block of the whole array: of the weights, -/
theorem flushed4 (t : Fin cfg0.N) :
    (dats m 0 c).flushed 4 t = ((cfg0.win 4).blk t).view.read (Elt Ideal) (wholeW (refScore m c)) := by
  show (cfg0.win 4).cut (grid0.coords t) ((dats m 0 c).after 4 t) = _
  rw [after_4, outW_eq _ _ _ _ (iblk3_apply m c t)]
  have e : win0_4.index t 0 * win0_4.size 0 = 96 * t.val ∧ win0_4.index t 1 * win0_4.size 1 = 0 := by
    rcases fin_N0 t with rfl | rfl <;> decide +kernel
  have ht : t.val < 2 := t.isLt
  funext y
  have h0 : (y 0).val < 96 := (y 0).isLt
  have h1 : (y 1).val < 128 := (y 1).isLt
  have hr := (point_rounds m c hp t ⟨(128 * (y 0).val + (y 1).val) / 3, by omega⟩
    ⟨(128 * (y 0).val + (y 1).val) % 3, by omega⟩).2
  show blockW (pointScores m c t) y = listW (refScore m c) ⟨128 * (win0_4.index t 0 * win0_4.size 0 + 1 * (y 0).val)
    + (win0_4.index t 1 * win0_4.size 1 + 1 * (y 1).val), _⟩
  have e1 : (128 * (win0_4.index t 0 * win0_4.size 0 + 1 * (y 0).val) + (win0_4.index t 1 * win0_4.size 1 + 1 * (y 1).val)) / 3
      = 4096 * t.val + (128 * (y 0).val + (y 1).val) / 3 := by rw [e.1, e.2]; omega
  have e2 : (128 * (win0_4.index t 0 * win0_4.size 0 + 1 * (y 0).val) + (win0_4.index t 1 * win0_4.size 1 + 1 * (y 1).val)) % 3
      = (128 * (y 0).val + (y 1).val) % 3 := by rw [e.1, e.2]; omega
  unfold blockW listW
  simp only [e1, e2]
  exact hr

/-- and of the hyperedges. -/
theorem flushed5 (t : Fin cfg0.N) :
    (dats m 0 c).flushed 5 t = ((cfg0.win 5).blk t).view.read (Elt Ideal) (wholeE (refScore m c)) := by
  show (cfg0.win 5).cut (grid0.coords t) ((dats m 0 c).after 5 t) = _
  rw [after_5, outE_eq _ _ _ _ (iblk3_apply m c t), coords_val]
  have e : win0_5.index t 0 * win0_5.size 0 = 0 ∧ win0_5.index t 1 * win0_5.size 1 = 96 * t.val
      ∧ win0_5.index t 2 * win0_5.size 2 = 0 := by
    rcases fin_N0 t with rfl | rfl <;> decide +kernel
  have ht : t.val < 2 := t.isLt
  funext y
  have hy : (y 0).val < 2 := (y 0).isLt
  have h0 : (y 1).val < 96 := (y 1).isLt
  have h1 : (y 2).val < 128 := (y 2).isLt
  show blockE (pointScores m c t) t.val y = listE (refScore m c) ⟨win0_5.index t 0 * win0_5.size 0 + 1 * (y 0).val, _⟩
    ⟨128 * (win0_5.index t 1 * win0_5.size 1 + 1 * (y 1).val) + (win0_5.index t 2 * win0_5.size 2 + 1 * (y 2).val), _⟩
  have e1 : (128 * (win0_5.index t 1 * win0_5.size 1 + 1 * (y 1).val) + (win0_5.index t 2 * win0_5.size 2 + 1 * (y 2).val)) / 3
      = 4096 * t.val + (128 * (y 1).val + (y 2).val) / 3 := by rw [e.2.1, e.2.2]; omega
  have e2 : (128 * (win0_5.index t 1 * win0_5.size 1 + 1 * (y 1).val) + (win0_5.index t 2 * win0_5.size 2 + 1 * (y 2).val)) % 3
      = (128 * (y 1).val + (y 2).val) % 3 := by rw [e.2.1, e.2.2]; omega
  have e0 : win0_5.index t 0 * win0_5.size 0 + 1 * (y 0).val = (y 0).val := by rw [e.1]; omega
  unfold blockE listE
  simp only [e0, e1, e2]
  refine if_congr Iff.rfl rfl ?_
  exact (point_rounds m c hp t ⟨(128 * (y 1).val + (y 2).val) / 3, by omega⟩
    ⟨(128 * (y 1).val + (y 2).val) % 3, by omega⟩).1

end Flushed

/-- The blocks tile the arrays: row `i` is in block `i / 96`. -/
theorem cover4 (i : S192x128.Idx) : ∃ t : Fin cfg0.N, (cfg0.win 4).flush t = true ∧ i ∈ ((cfg0.win 4).blk t).view.set := by
  have h0 : (i 0).val < 192 := (i 0).isLt
  have h1 : (i 1).val < 128 := (i 1).isLt
  have hN : cfg0.N = 2 := N_0
  have ht : (i 0).val / 96 < cfg0.N := by omega
  refine ⟨⟨_, ht⟩, flush0_4 _, ?_⟩
  generalize htv : (⟨_, ht⟩ : Fin cfg0.N) = t
  have hv : t.val = (i 0).val / 96 := by rw [← htv]
  show i ∈ ((View.whole main_v0_0).slice (win0_4.rect t)).set
  rw [View.set_slice_whole, Rect.mem_set_unit]
  have e : win0_4.index t 0 * win0_4.size 0 = 96 * t.val ∧ win0_4.xsize (grid0.coords t) 0 = 96
      ∧ win0_4.index t 1 * win0_4.size 1 = 0 ∧ win0_4.xsize (grid0.coords t) 1 = 128 := by
    rcases fin_N0 t with rfl | rfl <;> decide +kernel
  intro a
  match a with
  | ⟨0, _⟩ => show win0_4.index t 0 * win0_4.size 0 ≤ (i 0).val ∧ (i 0).val < win0_4.index t 0 * win0_4.size 0 + win0_4.xsize (grid0.coords t) 0
              rw [e.1, e.2.1]; omega
  | ⟨1, _⟩ => show win0_4.index t 1 * win0_4.size 1 ≤ (i 1).val ∧ (i 1).val < win0_4.index t 1 * win0_4.size 1 + win0_4.xsize (grid0.coords t) 1
              rw [e.2.2.1, e.2.2.2]; omega

/-- The same of the pairs: row `i` of either plane. -/
theorem cover5 (i : S2x192x128.Idx) : ∃ t : Fin cfg0.N, (cfg0.win 5).flush t = true ∧ i ∈ ((cfg0.win 5).blk t).view.set := by
  have hp : (i 0).val < 2 := (i 0).isLt
  have h0 : (i 1).val < 192 := (i 1).isLt
  have h1 : (i 2).val < 128 := (i 2).isLt
  have hN : cfg0.N = 2 := N_0
  have ht : (i 1).val / 96 < cfg0.N := by omega
  refine ⟨⟨_, ht⟩, flush0_5 _, ?_⟩
  generalize htv : (⟨_, ht⟩ : Fin cfg0.N) = t
  have hv : t.val = (i 1).val / 96 := by rw [← htv]
  show i ∈ ((View.whole main_v0_1).slice (win0_5.rect t)).set
  rw [View.set_slice_whole, Rect.mem_set_unit]
  have e : (win0_5.index t 0 * win0_5.size 0 = 0 ∧ win0_5.xsize (grid0.coords t) 0 = 2)
      ∧ (win0_5.index t 1 * win0_5.size 1 = 96 * t.val ∧ win0_5.xsize (grid0.coords t) 1 = 96)
      ∧ (win0_5.index t 2 * win0_5.size 2 = 0 ∧ win0_5.xsize (grid0.coords t) 2 = 128) := by
    rcases fin_N0 t with rfl | rfl <;> decide +kernel
  intro a
  match a with
  | ⟨0, _⟩ => show win0_5.index t 0 * win0_5.size 0 ≤ (i 0).val ∧ (i 0).val < win0_5.index t 0 * win0_5.size 0 + win0_5.xsize (grid0.coords t) 0
              rw [e.1.1, e.1.2]; omega
  | ⟨1, _⟩ => show win0_5.index t 1 * win0_5.size 1 ≤ (i 1).val ∧ (i 1).val < win0_5.index t 1 * win0_5.size 1 + win0_5.xsize (grid0.coords t) 1
              rw [e.2.1.1, e.2.1.2]; omega
  | ⟨2, _⟩ => show win0_5.index t 2 * win0_5.size 2 ≤ (i 2).val ∧ (i 2).val < win0_5.index t 2 * win0_5.size 2 + win0_5.xsize (grid0.coords t) 2
              rw [e.2.2.1, e.2.2.2]; omega

/-- The array of scores after the run, -/
theorem final4 (hp : ∀ n j, refSim m c (ix2 n j) < ⊤) : (dats m 0 c).arrAt 4 cfg0.N = wholeW (refScore m c) :=
  (dats m 0 c).arrAt_eq_of_cover 4 (wholeW (refScore m c)) (fun t _ => flushed4 m c hp t) cover4
/-- and of the pairs. -/
theorem final5 (hp : ∀ n j, refSim m c (ix2 n j) < ⊤) : (dats m 0 c).arrAt 5 cfg0.N = wholeE (refScore m c) :=
  (dats m 0 c).arrAt_eq_of_cover 5 (wholeE (refScore m c)) (fun t _ => flushed5 m c hp t) cover5

/-- The list of pairs they reshape to, -/
def resultE (x : FVec Ideal Cert.ReferenceIdeal.S8192x64 .f32) : IVec S2x24576 32 := fun i => listE x (i 0) (i 1)
/-- and of the scores. -/
def resultW (x : FVec Ideal Cert.ReferenceIdeal.S8192x64 .f32) : FVec Ideal S24576 .f32 := fun i => listW x (i 0)

/-- Reshaping the pairs' array lists it, -/
theorem reshapeE (x : FVec Ideal Cert.ReferenceIdeal.S8192x64 .f32) :
    shapeCast S2x24576 (wholeE x) shapeCasts_S2x192x128_S2x24576 = resultE x := by
  funext i
  have hp : (i 0).val < 2 := (i 0).isLt
  have hq : (i 1).val < 24576 := (i 1).isLt
  have ha : (i 1).val / 128 < 192 := by omega
  have hb : (i 1).val % 128 < 128 := by omega
  refine (shapeCast_apply (wholeE x) _ i (ix3 (i 0) ⟨_, ha⟩ ⟨_, hb⟩) ?_).trans ?_
  · rw [Shape.rowMajor_val_three, Shape.rowMajor_val_two]
    show ((i 0).val * 192 + (i 1).val / 128) * 128 + (i 1).val % 128 = (i 0).val * 24576 + (i 1).val
    omega
  · show listE x (i 0) ⟨128 * ((i 1).val / 128) + (i 1).val % 128, _⟩ = listE x (i 0) (i 1)
    exact congrArg (listE x (i 0)) (Fin.ext (by show 128 * ((i 1).val / 128) + (i 1).val % 128 = (i 1).val; omega))

/-- and so does reshaping the scores'. -/
theorem reshapeW (x : FVec Ideal Cert.ReferenceIdeal.S8192x64 .f32) :
    shapeCast S24576 (wholeW x) shapeCasts_S192x128_S24576 = resultW x := by
  funext i
  have hq : (i 0).val < 24576 := (i 0).isLt
  have ha : (i 0).val / 128 < 192 := by omega
  have hb : (i 0).val % 128 < 128 := by omega
  refine (shapeCast_apply (wholeW x) _ i (ix2 ⟨_, ha⟩ ⟨_, hb⟩) ?_).trans ?_
  · rw [Shape.rowMajor_val_two, Shape.rowMajor_val_one]
    show (i 0).val / 128 * 128 + (i 0).val % 128 = (i 0).val
    omega
  · show listW x ⟨128 * ((i 0).val / 128) + (i 0).val % 128, _⟩ = listW x (i 0)
    exact congrArg (listW x) (Fin.ext (by show 128 * ((i 0).val / 128) + (i 0).val % 128 = (i 0).val; omega))

/-- What the reshapes after the region leave, in the first result -/
theorem tail_v1 : Pipeline.afterTail₀ cfgs (dats m) 0 (V0 m) [hostOps1] c main_v1
    = shapeCast S2x24576 ((dats m 0 c).arrAt 5 cfg0.N) shapeCasts_S2x192x128_S2x24576 := by
  unfold Pipeline.afterTail₀
  simp only [hostOps1, List.flatten_cons, List.flatten_nil, List.append_nil]
  after_results_simp
  exact congrArg (fun u => shapeCast S2x24576 u shapeCasts_S2x192x128_S2x24576)
    (Pipeline.withArrays_arr spec0 launch0.win.arr_inj c (V0 m c) (fun w => (dats m 0 c).arrAt w cfg0.N) 5)

/-- and in the second. -/
theorem tail_v2 : Pipeline.afterTail₀ cfgs (dats m) 0 (V0 m) [hostOps1] c main_v2
    = shapeCast S24576 ((dats m 0 c).arrAt 4 cfg0.N) shapeCasts_S192x128_S24576 := by
  unfold Pipeline.afterTail₀
  simp only [hostOps1, List.flatten_cons, List.flatten_nil, List.append_nil]
  after_results_simp
  exact congrArg (fun u => shapeCast S24576 u shapeCasts_S192x128_S24576)
    (Pipeline.withArrays_arr spec0 launch0.win.arr_inj c (V0 m c) (fun w => (dats m 0 c).arrAt w cfg0.N) 4)

/-- The kernel's run, below infinity: the two results list every node's three places in the reference's order. -/
theorem run_values (hp : ∀ c n j, refSim m c (ix2 n j) < ⊤) :
    θ_run defs (onTc (τ := τ) (main (F := Ideal))) ⟨m, fun _ => 0, ρ⟩ (fun r => ∀ c : Dev nD,
      r.2.mem ((c.tc : Thread nD τ).loc main_v1) = resultE (refScore m c)
      ∧ r.2.mem ((c.tc : Thread nD τ).loc main_v2) = resultW (refScore m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      ((h.1.1 c).2 main_v1 (Pipeline.mem_restRefs_of main_v1 (by decide) (by decide))).trans
        ((tail_v1 m c).trans ((congrArg (fun u => shapeCast S2x24576 u shapeCasts_S2x192x128_S2x24576) (final5 m c (hp c))).trans
          (reshapeE _))),
      ((h.1.1 c).2 main_v2 (Pipeline.mem_restRefs_of main_v2 (by decide) (by decide))).trans
        ((tail_v2 m c).trans ((congrArg (fun u => shapeCast S24576 u shapeCasts_S192x128_S24576) (final4 m c (hp c))).trans
          (reshapeW _))),
      h.2.1 c⟩)
    (θ_run_and (run_all m ρ) (run_main m ρ))

end Cert.Proof.Hyper

end
-- ==== Proof.Values.lean ====
/-
  The value claim: the reference's two results list every node's three places in the order of its scores, the precondition
  says that every similarity is below infinity, and there the kernel's results are the same lists.
-/
module

public import proofs.«01_k».proof.Defs
public import proofs.«01_k».proof.Proof.Arrays
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem

/-! ## The reference's results -/

section Reference

open Cert.ReferenceIdeal Cert.ReferenceIdeal.Gen Cert.ReferenceIdeal.Read Cert.Proof.Hyper

variable (x1 : FVec Ideal S4x8192 .f32) (x2 : FVec Ideal S8192x768 .f32) (x3 : FVec Ideal S64x768 .f32)

/-- The weights: the list of the scores, -/
theorem reference_weights : val_main_v31 (F := Ideal) x1 x2 x3 = resultW (val_main_v22 (F := Ideal) x1 x2 x3) := by
  funext i
  rw [val_main_v31_apply]
  have hi : (i 0).val < 24576 := (i 0).isLt
  have e : idx_main_v31 i = ix2 ⟨(i 0).val / 3, by omega⟩ ⟨(i 0).val % 3, by omega⟩ := by
    funext a
    match a with
    | ⟨0, _⟩ => rfl
    | ⟨1, _⟩ => rfl
  rw [e]
  exact topK_value _ _ _

/-- the hyperedges: the list of the places, -/
theorem reference_places (q : Fin 24576) : val_main_v29 (F := Ideal) x1 x2 x3 (ix2 0 q)
    = listE (val_main_v22 (F := Ideal) x1 x2 x3) 1 q := by
  rw [val_main_v29_apply, val_main_v27_apply]
  have e : idx_main_v27 (idx_main_v29 (ix2 0 q)) = ix2 ⟨q.val / 3, by omega⟩ ⟨q.val % 3, by omega⟩ := by
    funext a
    match a with
    | ⟨0, _⟩ => rfl
    | ⟨1, _⟩ => rfl
  rw [e]
  exact topK_index _ _ _

/-- the nodes: each number three times, -/
theorem reference_nodes (q : Fin 24576) : val_main_v28 (F := Ideal) (ix2 0 q)
    = listE (val_main_v22 (F := Ideal) x1 x2 x3) 0 q := by
  rw [val_main_v28_apply, val_main_v26_apply, val_main_v25_apply, val_main_v24_apply, val_main_v23_apply]
  rfl

/-- and the pair, a row of each. -/
theorem reference_pairs : val_main_v30 (F := Ideal) x1 x2 x3 = resultE (val_main_v22 (F := Ideal) x1 x2 x3) := by
  funext i
  have hp : (i 0).val < 2 := (i 0).isLt
  by_cases h : (i 0).val = 0
  · refine (concatenate_pair_apply_left (0 : Fin S2x24576.rank) _ _ concatenates_S1x24576_S1x24576_S2x24576_d0 i rfl (ix2 0 (i 1)) ?_).trans ?_
    · intro b
      match b with
      | ⟨0, _⟩ => exact h.symm
      | ⟨1, _⟩ => rfl
    · exact (reference_nodes x1 x2 x3 (i 1)).trans
        (congrArg (fun p => listE (val_main_v22 (F := Ideal) x1 x2 x3) p (i 1)) (Fin.ext h.symm))
  · refine (concatenate_pair_apply_right (0 : Fin S2x24576.rank) _ _ concatenates_S1x24576_S1x24576_S2x24576_d0 i rfl rfl (ix2 0 (i 1)) ?_ ?_).trans ?_
    · intro b hb
      match b with
      | ⟨0, _⟩ => exact absurd rfl hb
      | ⟨1, _⟩ => rfl
    · show 0 + 1 = (i 0).val
      omega
    · exact (reference_places x1 x2 x3 (i 1)).trans
        (congrArg (fun p => listE (val_main_v22 (F := Ideal) x1 x2 x3) p (i 1)) (Fin.ext (by show 1 = (i 0).val; omega)))

end Reference

/-! ## The precondition -/

/-- The relations its operations state are the reference's own. -/
theorem precondition_facts : Cert.Pre_similarity_below_infinity.Facts where
  transposes_S64x768_S768x64_1_0 := Cert.ReferenceIdeal.Gen.transposes_S64x768_S768x64_1_0
  bcast_S_S8192x64 := Cert.ReferenceIdeal.Gen.bcast_S_S8192x64
  reducesTo_S4x8192_S8192_d0 := Cert.ReferenceIdeal.Gen.reducesTo_S4x8192_S8192_d0
  h_S_ := Cert.ReferenceIdeal.Gen.h_S_
  bcast_S_S8192 := Cert.ReferenceIdeal.Gen.bcast_S_S8192
  bcast_S8192_S8192x1_0 := Cert.ReferenceIdeal.Gen.bcast_S8192_S8192x1_0
  bcast_S_S8192x1 := Cert.ReferenceIdeal.Gen.bcast_S_S8192x1
  bcast_S8192x1_S8192x64_0_1 := Cert.ReferenceIdeal.Gen.bcast_S8192x1_S8192x64_0_1
  dot_S8192x768_S768x64_S8192x64_1_0_0_1_n_n_wf := Cert.ReferenceIdeal.Gen.dot_S8192x768_S768x64_S8192x64_1_0_0_1_n_n_wf

/-- It compares the reference's similarities with infinity. -/
theorem precondition_eq (x0 : FVec Ideal Cert.Pre_similarity_below_infinity.S4x8192x768 .f32)
    (x1 : FVec Ideal Cert.ReferenceIdeal.S4x8192 .f32) (x2 : FVec Ideal Cert.ReferenceIdeal.S8192x768 .f32)
    (x3 : FVec Ideal Cert.ReferenceIdeal.S64x768 .f32) (i : Cert.ReferenceIdeal.S8192x64.Idx) :
    haveI := precondition_facts
    Cert.Pre_similarity_below_infinity.fn (F := Ideal) x0 x1 x2 x3 i
      = FloatOps.cmpf (F := Ideal) (φ := .f32) .olt (Cert.ReferenceIdeal.Read.val_main_v11 (F := Ideal) x1 x2 x3 i)
          (FloatOps.ofBits .f32 0x7F800000#32) := rfl

/-- So where it holds every similarity is below infinity. -/
theorem below_infinity (x0 x1 x2 x3)
    (h : haveI := precondition_facts
      Cert.Pre_similarity_below_infinity.fn (F := Ideal) x0 x1 x2 x3 = fun _ => 1#1)
    (n : Fin 8192) (j : Fin 64) :
    Cert.ReferenceIdeal.Read.val_main_v11 (F := Ideal) x1 x2 x3 (ix2 n j) < ⊤ := by
  have e := (precondition_eq x0 x1 x2 x3 (ix2 n j)).symm.trans (congrFun h (ix2 n j))
  have e' : BitVec.ofBool (decide (Cert.ReferenceIdeal.Read.val_main_v11 (F := Ideal) x1 x2 x3 (ix2 n j)
      < Ideal.ofBits .f32 0x7F800000#32)) = 1#1 := e
  rw [Hyper.ofBits_inf] at e'
  by_contra hn
  rw [decide_eq_false hn] at e'
  exact absurd e' (by decide)

/-- It holds whenever the embeddings are finite, whatever the mask. -/
theorem finite_below (x0 : FVec Ideal Cert.Pre_similarity_below_infinity.S4x8192x768 .f32)
    (x1 : FVec Ideal Cert.ReferenceIdeal.S4x8192 .f32) (x2 : FVec Ideal Cert.ReferenceIdeal.S8192x768 .f32)
    (x3 : FVec Ideal Cert.ReferenceIdeal.S64x768 .f32) (h2 : ∀ i, ∃ r : ℝ, x2 i = (r : EReal)) (h3 : ∀ i, ∃ r : ℝ, x3 i = (r : EReal)) :
    haveI := precondition_facts
    Cert.Pre_similarity_below_infinity.fn (F := Ideal) x0 x1 x2 x3 = fun _ => 1#1 := by
  funext i
  refine (precondition_eq x0 x1 x2 x3 i).trans ?_
  have hlt : Cert.ReferenceIdeal.Read.val_main_v11 (F := Ideal) x1 x2 x3 i < ⊤ := by
    obtain ⟨n, j, rfl⟩ : ∃ (n : Fin 8192) (j : Fin 64), i = ix2 n j := ⟨i 0, i 1, funext fun a => by
      match a with
      | ⟨0, _⟩ => rfl
      | ⟨1, _⟩ => rfl⟩
    exact lt_of_eq_of_lt (Hyper.ref_sim_eq x1 x2 x3 n j) (Hyper.simRow_lt_top _ _ _ (fun _ => h2 _) (fun _ _ => h3 _) j)
  show BitVec.ofBool (decide (Cert.ReferenceIdeal.Read.val_main_v11 (F := Ideal) x1 x2 x3 i
    < Ideal.ofBits .f32 0x7F800000#32)) = 1#1
  rw [Hyper.ofBits_inf, decide_eq_true hlt]
  rfl

/-! ## The claim -/

/-- The kernel and the reference, over extended reals, from arguments whose every similarity is below infinity. -/
theorem same_values :
    haveI := precondition_facts
    Cert.algebraic_KernelIdeal_ReferenceIdeal_pre_similarity_below_infinity := by
  intro m g m' g' hpre hagree
  have hp : ∀ c n j, Hyper.refSim m c (ix2 n j) < ⊤ := fun c n j => below_infinity _ _ _ _ (hpre c) n j
  refine ⟨fun c => Hyper.resultE (Hyper.refScore m c), fun c => Hyper.resultW (Hyper.refScore m c),
    Hyper.run_values m g hp, ?_⟩
  refine (θ_run Cert.ReferenceIdeal.defs _ _).mono (fun r h c => ⟨(h c).1.trans ?_, (h c).2.1.trans ?_, (h c).2.2⟩)
    (Cert.ReferenceIdeal.Value.run (F := Ideal) m' g')
  · rw [Cert.ReferenceIdeal.Read.val_main_v30_eq, reference_pairs, (hagree c).2.1, (hagree c).2.2.1, (hagree c).2.2.2]
  · rw [Cert.ReferenceIdeal.Read.val_main_v31_eq, reference_weights, (hagree c).2.1, (hagree c).2.2.1, (hagree c).2.2.2]

end Cert.Proof

end
-- ==== Proof.lean ====
module

public import proofs.«01_k».proof.Defs
public import proofs.«01_k».proof.Proof.Frames
public import proofs.«01_k».proof.Proof.Values
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- Everything claimed: the three programs' frames (under the precondition they say less), and the values. -/
theorem claim : Cert.Claim :=
  ⟨Cert.Kernel.Gen.facts, Cert.KernelIdeal.Gen.facts, Cert.ReferenceIdeal.Gen.facts, precondition_facts,
    frame_kernel, frame_kernelIdeal, fun m g _ => frame_kernelIdeal m g trivial,
    frame_reference, fun m g _ => frame_reference m g trivial, trivial, same_values⟩

end Cert.Proof

end
